-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate_inputs [hPre_finite_gate_inputs : Cert.Pre_finite_gate_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_gate_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate_inputs [hPre_finite_gate_inputs : Cert.Pre_finite_gate_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_gate_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_gate_inputs [hKernelIdeal : Cert.KernelIdeal.Facts] [hPre_finite_gate_inputs : Cert.Pre_finite_gate_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_gate_inputs [hReferenceIdeal : Cert.ReferenceIdeal.Facts] [hPre_finite_gate_inputs : Cert.Pre_finite_gate_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_gate_inputs [hKernelIdeal : Cert.KernelIdeal.Facts] [hReferenceIdeal : Cert.ReferenceIdeal.Facts] [hPre_finite_gate_inputs : Cert.Pre_finite_gate_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_gate_inputs : Cert.Pre_finite_gate_inputs.Facts),
    quiescent_Kernel (hKernel := hKernel)
    ∧ quiescent_KernelIdeal (hKernelIdeal := hKernelIdeal)
    ∧ quiescent_KernelIdeal_pre_finite_gate_inputs (hKernelIdeal := hKernelIdeal) (hPre_finite_gate_inputs := hPre_finite_gate_inputs)
    ∧ quiescent_ReferenceIdeal (hReferenceIdeal := hReferenceIdeal)
    ∧ quiescent_ReferenceIdeal_pre_finite_gate_inputs (hReferenceIdeal := hReferenceIdeal) (hPre_finite_gate_inputs := hPre_finite_gate_inputs)
    ∧ preserves_Kernel_KernelIdeal
    ∧ algebraic_KernelIdeal_ReferenceIdeal_pre_finite_gate_inputs (hKernelIdeal := hKernelIdeal) (hReferenceIdeal := hReferenceIdeal) (hPre_finite_gate_inputs := hPre_finite_gate_inputs)
-- ==== Pre_finite_gate_inputs.lean ====
abbrev S1x4096x2048 : Shape := ⟨3, ![1, 4096, 2048]⟩
abbrev S2048x2048 : Shape := ⟨2, ![2048, 2048]⟩
abbrev S2048 : Shape := ⟨1, ![2048]⟩
abbrev S8x2048 : Shape := ⟨2, ![8, 2048]⟩
abbrev S8x2048x16 : Shape := ⟨3, ![8, 2048, 16]⟩
abbrev S8x16x2048 : Shape := ⟨3, ![8, 16, 2048]⟩
abbrev S_ : Shape := ⟨0, ![]⟩

class Facts : Prop where
  bcast_S_S1x4096x2048 : S_.BroadcastsInDim S1x4096x2048 (![] : Fin 0 → Fin S1x4096x2048.rank)
  bcast_S_S8x2048 : S_.BroadcastsInDim S8x2048 (![] : Fin 0 → Fin S8x2048.rank)

variable [Facts]

def fn {F : FTy → Type} [FloatOps F] (main_arg0 : FVec F S1x4096x2048 .f32) (main_arg1 : FVec F S2048x2048 .f32) (main_arg2 : FVec F S2048 .f32) (main_arg3 : FVec F S8x2048 .f32) (main_arg4 : FVec F S8x2048x16 .f32) (main_arg5 : FVec F S8x16x2048 .f32) : IVec S1x4096x2048 1 × IVec S8x2048 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_v3 : FVec F S8x2048 .f32 := Host.absf main_arg3
  let main_cst_0 : FVec F S_ .f32 := constant S_ .f32 0x7F800000#32
  let main_v4 : FVec F S8x2048 .f32 := broadcastInDim S8x2048 ![] bcast_S_S8x2048 main_cst_0
  let main_v5 : IVec S8x2048 1 := cmpf .olt main_v3 main_v4
  (main_v2, main_v5)
-- ==== Kernel.lean ====
abbrev S1x4096x2048 : Shape := ⟨3, ![1, 4096, 2048]⟩
abbrev S2048x2048 : Shape := ⟨2, ![2048, 2048]⟩
abbrev S2048 : Shape := ⟨1, ![2048]⟩
abbrev S8x2048 : Shape := ⟨2, ![8, 2048]⟩
abbrev S8x2048x16 : Shape := ⟨3, ![8, 2048, 16]⟩
abbrev S8x16x2048 : Shape := ⟨3, ![8, 16, 2048]⟩
abbrev S4096x2048 : Shape := ⟨2, ![4096, 2048]⟩
abbrev S128x2048 : Shape := ⟨2, ![128, 2048]⟩
abbrev S136x2048 : Shape := ⟨2, ![136, 2048]⟩
abbrev S1x2048 : Shape := ⟨2, ![1, 2048]⟩
abbrev S512x2048 : Shape := ⟨2, ![512, 2048]⟩
abbrev S128x512 : Shape := ⟨2, ![128, 512]⟩
abbrev S136x512 : Shape := ⟨2, ![136, 512]⟩
abbrev S8x512 : Shape := ⟨2, ![8, 512]⟩
abbrev S512 : Shape := ⟨1, ![512]⟩
abbrev S1x512 : Shape := ⟨2, ![1, 512]⟩
abbrev S8x1x512 : Shape := ⟨3, ![8, 1, 512]⟩
abbrev S8x16x512 : Shape := ⟨3, ![8, 16, 512]⟩

abbrev nBuf : Space → Nat
  | .hbm => 14
  | .vmem => 13
  | .smem => 0
  | _ => 0

abbrev bufTy : (tb : Table) → Fin (tcTables nBuf tb) → BufTy
  | .hbm, ⟨0, _⟩ => ⟨S1x4096x2048, .f32⟩
  | .hbm, ⟨1, _⟩ => ⟨S2048x2048, .f32⟩
  | .hbm, ⟨2, _⟩ => ⟨S2048, .f32⟩
  | .hbm, ⟨3, _⟩ => ⟨S8x2048, .f32⟩
  | .hbm, ⟨4, _⟩ => ⟨S8x2048x16, .f32⟩
  | .hbm, ⟨5, _⟩ => ⟨S8x16x2048, .f32⟩
  | .hbm, ⟨6, _⟩ => ⟨S4096x2048, .f32⟩
  | .hbm, ⟨7, _⟩ => ⟨S8x16x2048, .f32⟩
  | .hbm, ⟨8, _⟩ => ⟨S128x2048, .f32⟩
  | .hbm, ⟨9, _⟩ => ⟨S136x2048, .f32⟩
  | .hbm, ⟨10, _⟩ => ⟨S128x2048, .f32⟩
  | .hbm, ⟨11, _⟩ => ⟨S1x2048, .f32⟩
  | .hbm, ⟨12, _⟩ => ⟨S4096x2048, .f32⟩
  | .hbm, ⟨13, _⟩ => ⟨S1x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S1x2048, .f32⟩
  | .local _ .vmem, ⟨4, _⟩ => ⟨S136x2048, .f32⟩
  | .local _ .vmem, ⟨5, _⟩ => ⟨S128x2048, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S136x2048, .bf16⟩
  | .local _ .vmem, ⟨10, _⟩ => ⟨S128x2048, .bf16⟩
  | .local _ .vmem, ⟨11, _⟩ => ⟨S512x2048, .bf16⟩
  | .local _ .vmem, ⟨12, _⟩ => ⟨S128x512, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S136x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x4096x2048 : Shape := ⟨3, ![1, 4096, 2048]⟩
abbrev S2048x2048 : Shape := ⟨2, ![2048, 2048]⟩
abbrev S2048 : Shape := ⟨1, ![2048]⟩
abbrev S8x2048 : Shape := ⟨2, ![8, 2048]⟩
abbrev S8x2048x16 : Shape := ⟨3, ![8, 2048, 16]⟩
abbrev S8x16x2048 : Shape := ⟨3, ![8, 16, 2048]⟩
abbrev S4096x2048 : Shape := ⟨2, ![4096, 2048]⟩
abbrev S1x2048 : Shape := ⟨2, ![1, 2048]⟩
abbrev S2048x8 : Shape := ⟨2, ![2048, 8]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S4096x2 : Shape := ⟨2, ![4096, 2]⟩
abbrev S8x16x4096 : Shape := ⟨3, ![8, 16, 4096]⟩
abbrev S8x4096x16 : Shape := ⟨3, ![8, 4096, 16]⟩
abbrev S8x4096x2048 : Shape := ⟨3, ![8, 4096, 2048]⟩
abbrev S4096x2x1 : Shape := ⟨3, ![4096, 2, 1]⟩
abbrev S1x1x8 : Shape := ⟨3, ![1, 1, 8]⟩
abbrev S4096x2x8 : Shape := ⟨3, ![4096, 2, 8]⟩

abbrev nBuf : Space → Nat
  | .hbm => 50
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x2048, .f32⟩
  | .hbm, ⟨2, _⟩ => ⟨S2048, .f32⟩
  | .hbm, ⟨3, _⟩ => ⟨S8x2048, .f32⟩
  | .hbm, ⟨4, _⟩ => ⟨S8x2048x16, .f32⟩
  | .hbm, ⟨5, _⟩ => ⟨S8x16x2048, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S2048x8, .f32⟩
  | .hbm, ⟨13, _⟩ => ⟨S4096x8, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096x1, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S4096x8, .f32⟩
  | .hbm, ⟨27, _⟩ => ⟨S4096x8, .f32⟩
  | .hbm, ⟨28, _⟩ => ⟨S4096x2, .f32⟩
  | .hbm, ⟨29, _⟩ => ⟨S4096x2, .i32⟩
  | .hbm, ⟨30, _⟩ => ⟨S8x16x4096, .f32⟩
  | .hbm, ⟨31, _⟩ => ⟨S8x4096x16, .f32⟩
  | .hbm, ⟨32, _⟩ => ⟨S8x4096x2048, .f32⟩
  | .hbm, ⟨33, _⟩ => ⟨S_, .f32⟩
  | .hbm, ⟨34, _⟩ => ⟨S8x4096x2048, .f32⟩
  | .hbm, ⟨35, _⟩ => ⟨S8x4096x2048, .f32⟩
  | .hbm, ⟨36, _⟩ => ⟨S4096x2x1, .i32⟩
  | .hbm, ⟨37, _⟩ => ⟨S1x1x8, .i32⟩
  | .hbm, ⟨38, _⟩ => ⟨S4096x2x8, .i32⟩
  | .hbm, ⟨39, _⟩ => ⟨S4096x2x8, .i32⟩
  | .hbm, ⟨40, _⟩ => ⟨S4096x2x8, .i1⟩
  | .hbm, ⟨41, _⟩ => ⟨S4096x2x8, .f32⟩
  | .hbm, ⟨42, _⟩ => ⟨S4096x2x1, .f32⟩
  | .hbm, ⟨43, _⟩ => ⟨S4096x2x8, .f32⟩
  | .hbm, ⟨44, _⟩ => ⟨S4096x2x8, .f32⟩
  | .hbm, ⟨45, _⟩ => ⟨S_, .f32⟩
  | .hbm, ⟨46, _⟩ => ⟨S4096x8, .f32⟩
  | .hbm, ⟨47, _⟩ => ⟨S4096x2048, .f32⟩
  | .hbm, ⟨48, _⟩ => ⟨S4096x2048, .f32⟩
  | .hbm, ⟨49, _⟩ => ⟨S1x4096x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_values : Ref sig .tc := ⟨.hbm, 28, rfl⟩
abbrev main_indices : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Proof.Top2.lean ====
/-
  The two greatest of a finite row of extended reals, found in two ways: by a stable sort (greater first, equal entries in
  index order), and by repeated maximum (the least index that holds the maximum; then the same over the row with that entry
  put to −∞). Both name the same two positions.
-/
module

public import Idealize.ShloMosaic.Lib.SortPrefix
public import Mathlib.Data.EReal.Operations

@[expose] public section

noncomputable section

namespace Cert.MoeMath

open Idealize.ShloMosaic

variable {n : ℕ}

/-- Position `i` is the first that holds the row's maximum. -/
structure IsFirstMax (s : Fin n → EReal) (i : Fin n) : Prop where
  le : ∀ e, s e ≤ s i
  lt : ∀ e, e < i → s e < s i

/-- The row with the entry at `i` put to −∞. -/
def masked (s : Fin n → EReal) (i : Fin n) : Fin n → EReal := fun e => if e = i then ⊥ else s e

/-- Masking one entry leaves the others. -/
theorem masked_of_ne (s : Fin n → EReal) {i e : Fin n} (h : e ≠ i) : masked s i e = s e := if_neg h

/-- The masked entry is −∞. -/
theorem masked_self (s : Fin n → EReal) (i : Fin n) : masked s i i = ⊥ := if_pos rfl

/-- `k` sorts before `k'` when its entry is greater. -/
def greater (s : Fin n → EReal) (k k' : Fin n) : Bool := decide (s k' < s k)

/-- The same, with equal entries ordered by position. -/
def greaterFirst (s : Fin n → EReal) (k k' : Fin n) : Bool :=
  decide (s k' < s k) || (decide (s k = s k') && decide (k < k'))

/-- An entry that is not greater, and equal only to an entry at a position not after its own, does not sort before. -/
theorem greaterFirst_eq_false {s : Fin n → EReal} {a b : Fin n} (h : s a ≤ s b) (h' : a < b → s a ≠ s b) :
    greaterFirst s a b = false := by
  have h1 : ¬ s b < s a := not_lt.mpr h
  have h2 : ¬ (s a = s b ∧ a < b) := fun hc => h' hc.2 hc.1
  rw [greaterFirst, decide_eq_false h1, Bool.false_or, ← Bool.decide_and]
  exact decide_eq_false h2

/-- Greater first, ties by position, is a strict total order. -/
theorem greaterFirst_total (s : Fin n → EReal) : StrictTotalBefore (greaterFirst s) :=
  StrictTotalBefore.of_key_then_position (fun a b : EReal => decide (b < a)) s (fun a => by simp)
    (fun a b c hab hbc => by
      simp only [decide_eq_true_eq] at hab hbc ⊢
      exact hbc.trans hab)
    (fun a b => by
      simp only [decide_eq_true_eq]
      rcases lt_trichotomy a b with h | h | h
      · exact .inr (.inr h)
      · exact .inr (.inl h)
      · exact .inl h)

/-- On an increasing list the stable sort never asks which of two equal entries comes first, so both orders sort it alike. -/
theorem stableSort_greater (s : Fin n → EReal) (l : List (Fin n)) (hl : l.Pairwise (· < ·)) :
    stableSort (greater s) l = stableSort (greaterFirst s) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have : ¬ b < a := not_lt.mpr hab.le
    simp [greater, greaterFirst, this]

/-- The stable sort by value alone is the sort by value and then position. -/
theorem sortedFrom_greater (s : Fin n → EReal) : sortedFrom (greater s) = sortedFrom (greaterFirst s) := by
  have h : sortPositions n (greater s) = sortPositions n (greaterFirst s) :=
    stableSort_greater s _ (List.pairwise_lt_finRange n)
  funext k
  unfold sortedFrom
  rw [List.get_of_eq h]
  rfl

section Two

variable {s : Fin n → EReal} {i₁ i₂ : Fin n} (hpos : ∀ e, ⊥ < s e) (hn : 2 ≤ n)
  (h₁ : IsFirstMax s i₁) (h₂ : IsFirstMax (masked s i₁) i₂)
include hpos hn h₁ h₂

/-- The second position differs from the first: every entry is above −∞. -/
theorem second_ne_first : i₂ ≠ i₁ := by
  intro h
  obtain ⟨e, he⟩ : ∃ e : Fin n, e ≠ i₁ := by
    by_contra hc
    push Not at hc
    have h0 := hc ⟨0, by omega⟩
    have h1 := hc ⟨1, by omega⟩
    exact absurd (congrArg Fin.val (h0.trans h1.symm)) (by simp)
  have hle := h₂.le e
  rw [h, masked_self, masked_of_ne s he] at hle
  exact absurd (hpos e) (not_lt.mpr hle)

/-- The sort puts the two positions first, in this order. -/
theorem sortedFrom_two (i : Fin 2) : sortedFrom (greater s) (i.castLE hn) = ![i₁, i₂] i := by
  have hne := second_ne_first hpos hn h₁ h₂
  rw [sortedFrom_greater]
  refine (greaterFirst_total s).sortedFrom_eq_of_prefix hn ![i₁, i₂] ?_ ?_ ?_ i
  · intro a b hab
    fin_cases a <;> fin_cases b <;> simp_all
  · intro a b hab
    obtain rfl : a = 0 := by omega
    obtain rfl : b = 1 := by omega
    exact greaterFirst_eq_false (h₁.le i₂) fun h => (h₁.lt i₂ h).ne
  · intro a p hp
    have hp0 : p ≠ i₁ := fun h => hp 0 h.symm
    have hp1 : p ≠ i₂ := fun h => hp 1 h.symm
    match a with
    | 0 => exact greaterFirst_eq_false (h₁.le p) fun h => (h₁.lt p h).ne
    | 1 =>
      have hle := h₂.le p
      have hlt := h₂.lt p
      rw [masked_of_ne s hp0, masked_of_ne s hne] at hle hlt
      exact greaterFirst_eq_false hle fun h => (hlt h).ne

end Two

end Cert.MoeMath

end
-- ==== Proof.Scores.lean ====
/-
  One token's gate: its scores (a softmax over the eight experts), the position of the greatest score and of the greatest
  of the rest, and the two ways of weighing the experts by them — a mask over the eight positions, and a sum of the two
  one-hot rows of the sorted scores.
-/
module

public import Idealize.ShloMosaic.PureOps.Ideal.Laws
public import Idealize.ShloMosaic.Lib.ValueIdx
public import proofs.«01_k».proof.Proof.Top2

@[expose] public section

noncomputable section

namespace Cert.MoeMath

open Idealize.ShloMosaic

/-- The greatest entry of a row, taken from −∞. -/
def rowMax (l : Fin 8 → EReal) : EReal := Finset.univ.fold max ⊥ l

/-- The softmax of a row. -/
def score (l : Fin 8 → EReal) (e : Fin 8) : EReal :=
  Ideal.div (Ideal.exp (l e - rowMax l)) (∑ k, Ideal.exp (l k - rowMax l))

/-- The least position that holds the greatest entry, as a word: 8 where the entry is not the greatest, and the least of
    the words. -/
def firstIdx (s : Fin 8 → EReal) : BitVec 32 :=
  Finset.univ.fold IntOp.minsi 2147483647#32
    (fun e => Scalar.select (Ideal.cmp .oeq (s e) (rowMax s)) (BitVec.ofNat 32 e.val) 8#32)

/-- The experts' weights by a mask: the score where the position is one of the two, else zero. -/
def maskWeight (s : Fin 8 → EReal) (w₁ w₂ : BitVec 32) (e : Fin 8) : EReal :=
  Scalar.select (IntOp.ori (IntOp.cmpi .eq (BitVec.ofNat 32 e.val) w₁) (IntOp.cmpi .eq (BitVec.ofNat 32 e.val) w₂)) (s e) 0

/-- The row with the entry at a word's position put to −∞. -/
def maskedAt (s : Fin 8 → EReal) (w : BitVec 32) (e : Fin 8) : EReal :=
  Scalar.select (IntOp.cmpi .eq (BitVec.ofNat 32 e.val) w) ⊥ (s e)

/-- The experts' weights by repeated maximum: the mask over the greatest score's position and the position of the greatest
    of the rest. -/
def gateWeight (s : Fin 8 → EReal) (e : Fin 8) : EReal :=
  maskWeight s (firstIdx s) (firstIdx (maskedAt s (firstIdx s))) e

/-- The position that the stable sort, greater first, puts at `k`. -/
def sortedPos (s : Fin 8 → EReal) (k : Fin 2) : Fin 8 := sortedFrom (greater s) (k.castLE (by decide : 2 ≤ 8))

/-- The experts' weights by sorting: the one-hot rows of the two first sorted scores' positions, each times its score. -/
def sortedWeight (s : Fin 8 → EReal) (e : Fin 8) : EReal :=
  0 + ∑ k : Fin 2, ((IntOp.cmpi .eq (BitVec.ofNat 32 (sortedPos s k).val) (BitVec.ofNat 32 e.val)).toNat : ℝ) * s (sortedPos s k)

/-- The score at the two positions, zero elsewhere. -/
def weight (s : Fin 8 → EReal) (i₁ i₂ e : Fin 8) : EReal := if e = i₁ ∨ e = i₂ then s e else 0

/-- No entry exceeds the maximum. -/
theorem le_rowMax (l : Fin 8 → EReal) (e : Fin 8) : l e ≤ rowMax l :=
  (Finset.le_fold_max _).mpr (.inr ⟨e, Finset.mem_univ e, le_rfl⟩)

/-- Some entry is the maximum. -/
theorem exists_eq_rowMax (l : Fin 8 → EReal) : ∃ e, l e = rowMax l := by
  obtain ⟨e, -, he⟩ := Finset.exists_max_image Finset.univ l ⟨0, Finset.mem_univ 0⟩
  refine ⟨e, le_antisymm (le_rowMax l e) ?_⟩
  exact (Finset.fold_max_le _).mpr ⟨bot_le, fun k hk => he k hk⟩

/-- Every row has a first maximum. -/
theorem exists_firstMax (s : Fin 8 → EReal) : ∃ i, IsFirstMax s i := by
  classical
  obtain ⟨e, he⟩ := exists_eq_rowMax s
  have hne : (Finset.univ.filter fun e => s e = rowMax s).Nonempty := ⟨e, by simp [he]⟩
  have hmem := Finset.min'_mem _ hne
  have hmax : s (Finset.min' _ hne) = rowMax s := (Finset.mem_filter.mp hmem).2
  refine ⟨Finset.min' _ hne, fun k => ?_, fun k hk => ?_⟩
  · rw [hmax]; exact le_rowMax s k
  · rw [hmax]
    refine lt_of_le_of_ne (le_rowMax s k) fun hc => ?_
    exact absurd (Finset.min'_le _ k (by simp [hc])) (not_le.mpr hk)

/-- The first greatest entry is the maximum. -/
theorem IsFirstMax.eq_rowMax {s : Fin 8 → EReal} {i : Fin 8} (h : IsFirstMax s i) : s i = rowMax s := by
  obtain ⟨e, he⟩ := exists_eq_rowMax s
  exact le_antisymm (le_rowMax s i) (he ▸ h.le e)

/-- A word not above any of the words folded is their least. -/
theorem minsi_fold_eq (v b : BitVec 32) (f : Fin 8 → BitVec 32) (S : Finset (Fin 8)) (hb : b.slt v = false)
    (hf : ∀ e ∈ S, (f e).slt v = false) : IntOp.minsi v (S.fold IntOp.minsi b f) = v := by
  have key : ∀ w : BitVec 32, w.slt v = false → IntOp.minsi v w = v := by
    intro w hw
    unfold IntOp.minsi
    split
    · rfl
    · rename_i h
      simp only [BitVec.slt, decide_eq_true_eq, decide_eq_false_iff_not, not_lt] at hw h
      exact BitVec.eq_of_toInt_eq (le_antisymm h hw)
  induction S using Finset.induction_on with
  | empty => rw [Finset.fold_empty]; exact key b hb
  | insert a S ha ih =>
    rw [Finset.fold_insert ha, ← Std.Associative.assoc (op := IntOp.minsi (w := 32)),
      key _ (hf a (Finset.mem_insert_self a S))]
    exact ih fun e he => hf e (Finset.mem_insert_of_mem he)

/-- The word found is the first maximum's. -/
theorem firstIdx_eq {s : Fin 8 → EReal} {i : Fin 8} (h : IsFirstMax s i) : firstIdx s = BitVec.ofNat 32 i.val := by
  have hi : Scalar.select (Ideal.cmp .oeq (s i) (rowMax s)) (BitVec.ofNat 32 i.val) 8#32 = BitVec.ofNat 32 i.val := by
    simp [Scalar.select, Ideal.cmp, h.eq_rowMax]
  have hord : ∀ a b : Fin 8, a ≤ b → (BitVec.ofNat 32 b.val).slt (BitVec.ofNat 32 a.val) = false := by decide
  have height : ∀ a : Fin 8, (8#32).slt (BitVec.ofNat 32 a.val) = false := by decide
  have hbig : ∀ a : Fin 8, (2147483647#32).slt (BitVec.ofNat 32 a.val) = false := by decide
  unfold firstIdx
  rw [← Finset.insert_erase (Finset.mem_univ i), Finset.fold_insert (Finset.notMem_erase i _), hi]
  refine minsi_fold_eq _ _ _ _ (hbig i) fun e he => ?_
  by_cases hs : s e = rowMax s
  · have hie : i ≤ e := by
      by_contra hc
      exact absurd (h.lt e (not_le.mp hc)) (by rw [hs, h.eq_rowMax]; exact lt_irrefl _)
    have : Scalar.select (Ideal.cmp .oeq (s e) (rowMax s)) (BitVec.ofNat 32 e.val) 8#32 = BitVec.ofNat 32 e.val := by
      simp [Scalar.select, Ideal.cmp, hs]
    rw [this]; exact hord i e hie
  · have : Scalar.select (Ideal.cmp .oeq (s e) (rowMax s)) (BitVec.ofNat 32 e.val) 8#32 = 8#32 := by
      simp [Scalar.select, Ideal.cmp, hs]
    rw [this]; exact height i

/-- Two positions' words are equal exactly when the positions are. -/
theorem cmpi_pos (a b : Fin 8) : IntOp.cmpi .eq (BitVec.ofNat 32 a.val) (BitVec.ofNat 32 b.val) = BitVec.ofBool (decide (a = b)) := by
  revert a b; decide

/-- Masking at a position's word masks the position. -/
theorem maskedAt_eq (s : Fin 8 → EReal) (i : Fin 8) : maskedAt s (BitVec.ofNat 32 i.val) = masked s i := by
  funext e
  unfold maskedAt masked
  rw [cmpi_pos]
  by_cases h : e = i <;> simp only [h, Scalar.select, decide_true, decide_false] <;> rfl

/-- The mask over the two positions' words weighs by the two positions. -/
theorem maskWeight_eq (s : Fin 8 → EReal) (i₁ i₂ e : Fin 8) :
    maskWeight s (BitVec.ofNat 32 i₁.val) (BitVec.ofNat 32 i₂.val) e = weight s i₁ i₂ e := by
  unfold maskWeight weight
  rw [cmpi_pos, cmpi_pos]
  have hor : ∀ p q : Bool, IntOp.ori (BitVec.ofBool p) (BitVec.ofBool q) = BitVec.ofBool (p || q) := by decide
  rw [hor, ← Bool.decide_or]
  by_cases h : e = i₁ ∨ e = i₂ <;> simp only [h, Scalar.select, decide_true, decide_false] <;> rfl

/-- The one-hot rows of two different positions, each times its score, add up to the same weights. -/
theorem oneHot_eq (s : Fin 8 → EReal) (p : Fin 2 → Fin 8) (hne : p 1 ≠ p 0) (e : Fin 8) :
    (0 : EReal) + ∑ k : Fin 2, ((IntOp.cmpi .eq (BitVec.ofNat 32 (p k).val) (BitVec.ofNat 32 e.val)).toNat : ℝ) * s (p k)
      = weight s (p 0) (p 1) e := by
  have hterm : ∀ k : Fin 2, (((IntOp.cmpi .eq (BitVec.ofNat 32 (p k).val) (BitVec.ofNat 32 e.val)).toNat : ℝ) : EReal) * s (p k)
      = if e = p k then s e else 0 := by
    intro k
    rw [cmpi_pos]
    by_cases h : p k = e
    · simp [h]
    · simp [h, Ne.symm h]
  rw [zero_add, Fin.sum_univ_two, hterm, hterm, weight]
  by_cases h₀ : e = p 0
  · have h₁ : e ≠ p 1 := fun h => hne (h.symm.trans h₀)
    simp [h₀, Ne.symm hne]
  · by_cases h₁ : e = p 1 <;> simp [h₀, h₁, hne]

section Real

variable {l : Fin 8 → EReal} (hl : ∀ e, ∃ r : ℝ, l e = r)
include hl

/-- Finite logits have positive finite scores. -/
theorem score_real (e : Fin 8) : ∃ a : ℝ, 0 < a ∧ score l e = a := by
  obtain ⟨i, hi⟩ := exists_eq_rowMax l
  choose r hr using hl
  have hx : ∀ k, Ideal.exp (l k - rowMax l) = ((Real.exp (r k - r i) : ℝ) : EReal) := by
    intro k
    rw [← hi, hr, hr, ← EReal.coe_sub]; rfl
  have hs : ∑ k, Ideal.exp (l k - rowMax l) = ((∑ k, Real.exp (r k - r i) : ℝ) : EReal) := by
    rw [Finset.sum_congr rfl fun k _ => hx k]
    exact (map_sum (⟨⟨((↑) : ℝ → EReal), EReal.coe_zero⟩, EReal.coe_add⟩ : ℝ →+ EReal) _ _).symm
  have hpos : 0 < ∑ k, Real.exp (r k - r i) :=
    Finset.sum_pos (fun k _ => Real.exp_pos _) ⟨0, Finset.mem_univ 0⟩
  refine ⟨Real.exp (r e - r i) * (∑ k, Real.exp (r k - r i))⁻¹, mul_pos (Real.exp_pos _) (inv_pos.mpr hpos), ?_⟩
  rw [score, hs, hx, Ideal.div, if_neg (by exact_mod_cast hpos.ne'), ← EReal.coe_inv, ← EReal.coe_mul]

/-- A finite row's scores are above −∞. -/
theorem bot_lt_score (e : Fin 8) : ⊥ < score l e := by
  obtain ⟨a, -, h⟩ := score_real hl e
  rw [h]; exact EReal.bot_lt_coe a

/-- The weights of finite scores are nonnegative and finite. -/
theorem weight_nonneg_ne_top (i₁ i₂ e : Fin 8) : 0 ≤ weight (score l) i₁ i₂ e ∧ weight (score l) i₁ i₂ e ≠ ⊤ := by
  obtain ⟨a, ha, h⟩ := score_real hl e
  unfold weight
  split
  · rw [h]; exact ⟨by exact_mod_cast ha.le, EReal.coe_ne_top a⟩
  · exact ⟨le_rfl, EReal.zero_ne_top⟩

/-- Finite logits: the mask weighs as the sorted scores' one-hot rows do, by weights nonnegative and finite. -/
theorem gate (e : Fin 8) : gateWeight (score l) e = sortedWeight (score l) e
    ∧ 0 ≤ gateWeight (score l) e ∧ gateWeight (score l) e ≠ ⊤ := by
  obtain ⟨i₁, h₁⟩ := exists_firstMax (score l)
  obtain ⟨i₂, h₂⟩ := exists_firstMax (masked (score l) i₁)
  have hm : gateWeight (score l) e = weight (score l) i₁ i₂ e := by
    rw [gateWeight, firstIdx_eq h₁, maskedAt_eq, firstIdx_eq h₂, maskWeight_eq]
  have hs := fun k => sortedFrom_two (bot_lt_score hl) (by decide : 2 ≤ 8) h₁ h₂ k
  rw [hm]
  refine ⟨?_, weight_nonneg_ne_top hl i₁ i₂ e⟩
  unfold sortedWeight sortedPos
  simp only [hs]
  exact (oneHot_eq (score l) ![i₁, i₂] (second_ne_first (bot_lt_score hl) (by decide) h₁ h₂) e).symm

end Real

end Cert.MoeMath

end
-- ==== Proof.Token.lean ====
/-
  One token and one output column: what the kernel adds up and what the reference adds up, and that they are equal when the
  token and the gate's weights are finite. The kernel weighs each expert's hidden row before the second factor's product and
  adds all experts' products in one sum of 128 terms; the reference weighs each expert's output.
-/
module

public import proofs.«01_k».proof.Proof.Scores
public import Mathlib.Algebra.BigOperators.Fin
public import Mathlib.Logic.Equiv.Fin.Basic

@[expose] public section

noncomputable section

namespace Cert.MoeMath

/-- The expert of one of the 128 stacked rows. -/
def expertOf (q : Fin 128) : Fin 8 := ⟨q.val / 16, by omega⟩

/-- The rank of one of the 128 stacked rows within its expert. -/
def rankOf (q : Fin 128) : Fin 16 := ⟨q.val % 16, by omega⟩

/-- The token's logits. -/
def logits (x : Fin 2048 → EReal) (g : Fin 8 → Fin 2048 → EReal) (e : Fin 8) : EReal := ∑ k, g e k * x k

/-- One weighted hidden entry, as the kernel keeps it between two grid points: row `q` of the stacked first factors times the
    token, times the expert's weight. -/
def hidden (x : Fin 2048 → EReal) (g : Fin 8 → Fin 2048 → EReal) (L : Fin 8 → Fin 2048 → Fin 16 → EReal) (q : Fin 128) : EReal :=
  (∑ k, L (expertOf q) k (rankOf q) * x k) * (gateWeight (score (logits x g)) (expertOf q) * 1)

/-- What the kernel adds up for a token and a column. -/
def kernelToken (x : Fin 2048 → EReal) (g : Fin 8 → Fin 2048 → EReal) (L : Fin 8 → Fin 2048 → Fin 16 → EReal)
    (w : Fin 2048 → EReal) (b : EReal) (R : Fin 8 → Fin 16 → EReal) : EReal :=
  (∑ k, x k * w k + ∑ q, hidden x g L q * R (expertOf q) (rankOf q)) + b

/-- What the reference adds up for them. -/
def referenceToken (x : Fin 2048 → EReal) (g : Fin 8 → Fin 2048 → EReal) (L : Fin 8 → Fin 2048 → Fin 16 → EReal)
    (w : Fin 2048 → EReal) (b : EReal) (R : Fin 8 → Fin 16 → EReal) : EReal :=
  (∑ k, x k * w k + b) + ∑ e, sortedWeight (score fun e => ∑ k, x k * g e k) e * ((∑ r, (∑ k, L e k r * x k) * R e r) * 1)

/-- A sum over the stacked rows is a sum over the experts of sums over their ranks. -/
theorem sum_stacked (f : Fin 8 → Fin 16 → EReal) : ∑ q, f (expertOf q) (rankOf q) = ∑ e, ∑ r, f e r := by
  rw [← Fintype.sum_prod_type' f]
  exact (finProdFinEquiv (m := 8) (n := 16)).symm.sum_comp fun p => f p.1 p.2

/-- A nonnegative finite factor goes into a sum. -/
theorem mul_sum_of_nonneg {ι : Type} (c : EReal) (h₀ : 0 ≤ c) (h₁ : c ≠ ⊤) (S : Finset ι) (f : ι → EReal) :
    c * ∑ i ∈ S, f i = ∑ i ∈ S, c * f i := by
  classical
  induction S using Finset.induction_on with
  | empty => simp
  | insert a S ha ih =>
    rw [Finset.sum_insert ha, Finset.sum_insert ha, EReal.left_distrib_of_nonneg_of_ne_top h₀ h₁, ih]

/-- A finite sum of products of finite numbers is finite. -/
theorem logits_real {x : Fin 2048 → EReal} {g : Fin 8 → Fin 2048 → EReal} (hx : ∀ k, ∃ r : ℝ, x k = r)
    (hg : ∀ e k, ∃ r : ℝ, g e k = r) (e : Fin 8) : ∃ r : ℝ, logits x g e = r := by
  choose a ha using hx
  choose c hc using hg
  refine ⟨∑ k, c e k * a k, ?_⟩
  unfold logits
  rw [Finset.sum_congr rfl fun k _ => show g e k * x k = ((c e k * a k : ℝ) : EReal) by rw [ha, hc, EReal.coe_mul]]
  exact (map_sum (⟨⟨((↑) : ℝ → EReal), EReal.coe_zero⟩, EReal.coe_add⟩ : ℝ →+ EReal) _ _).symm

/-- The two sums are equal when the token and the gate's weights are finite. -/
theorem token_eq {x : Fin 2048 → EReal} {g : Fin 8 → Fin 2048 → EReal} (hx : ∀ k, ∃ r : ℝ, x k = r)
    (hg : ∀ e k, ∃ r : ℝ, g e k = r) (L : Fin 8 → Fin 2048 → Fin 16 → EReal) (w : Fin 2048 → EReal) (b : EReal)
    (R : Fin 8 → Fin 16 → EReal) : kernelToken x g L w b R = referenceToken x g L w b R := by
  have hlog : (fun e => ∑ k, x k * g e k) = logits x g :=
    funext fun e => Finset.sum_congr rfl fun k _ => mul_comm _ _
  have hgate := gate (logits_real hx hg)
  have hexp : ∑ q, hidden x g L q * R (expertOf q) (rankOf q)
      = ∑ e, sortedWeight (score (logits x g)) e * ((∑ r, (∑ k, L e k r * x k) * R e r) * 1) := by
    unfold hidden
    rw [sum_stacked fun e r => (∑ k, L e k r * x k) * (gateWeight (score (logits x g)) e * 1) * R e r]
    refine Finset.sum_congr rfl fun e _ => ?_
    rw [← (hgate e).1, mul_one, mul_one, mul_sum_of_nonneg _ (hgate e).2.1 (hgate e).2.2]
    refine Finset.sum_congr rfl fun r _ => ?_
    rw [mul_comm (∑ k, L e k r * x k), mul_assoc]
  unfold kernelToken referenceToken
  rw [hlog, hexp, add_right_comm]

end Cert.MoeMath

end
-- ==== Proof.Block.lean ====
/-
  What one grid point of the kernel computes from the blocks that it reads, entry by entry: the weighted hidden rows of a
  tile of tokens, and the tile's output from the hidden rows kept by the point before.
-/
module

public import proofs.«01_k».proof.Proof.Token
public import proofs.«01_k».proof.Proof.Gen.KernelIdeal.Skeleton
public import Idealize.ShloMosaic.Lib.MatmulPlain
public import Idealize.ShloMosaic.Lib.ValueLayout
public import Idealize.ShloMosaic.Lib.IdealHost
public import Idealize.ShloMosaic.Lib.WordCmp

@[expose] public section

set_option maxRecDepth 16384

noncomputable section

namespace Cert.MoeBlock

open Cert.KernelIdeal Cert.KernelIdeal.Gen Cert.MoeMath Idealize.ShloMosaic Idealize.ShloMosaic.ValueIdx

/-- The word of −∞ reads −∞. -/
theorem ofBits_neg_inf : Ideal.ofBits .f32 0xFF800000#32 = ⊥ := by simp [Ideal.ofBits, Ideal.ieee]

/-! ## A column's reductions, spread back over the column -/

/-- The greatest entry of each column. -/
def colMax (v : FVec Ideal S8x512 .f32) : FVec Ideal S512 .f32 :=
  multiReduction (F := Ideal) .maximumf [0] S512 v 0xFF800000#32 reduces_S8x512_S512 (.inl rfl) rfl

/-- The sum of each column. -/
def colSum (v : FVec Ideal S8x512 .f32) : FVec Ideal S512 .f32 :=
  multiReduction (F := Ideal) .add [0] S512 v 0x00000000#32 reduces_S8x512_S512 (.inl rfl) rfl

/-- The least word of each column. -/
def colMin (v : IVec S8x512 32) : IVec S512 32 :=
  multiReductionI .minsi [0] S512 v 2147483647#32 reduces_S8x512_S512 rfl

/-- One value per column, spread over the column's eight entries. -/
def spread {α : Type} (v : S512.Idx → α) : S8x512.Idx → α :=
  broadcastTo S8x512 (shapeCast S1x512 v shapeCasts_S512_S1x512) broadcasts_S1x512_S8x512

/-- Every entry's row number. -/
def rowNumber : IVec S8x512 32 := iota .tc S8x512 32 [0] iota_S8x512_d0_w32

/-- An entry of a column, as the reduction along the column names it. -/
theorem lift_col (t : Fin 512) (k : Fin 8) : reduces_S8x512_S512.lift (ix1 t) k = ix2 k t := by
  funext a; apply Fin.ext
  match a with
  | ⟨0, _⟩ => rfl
  | ⟨1, _⟩ => rfl

/-- A row spread over the column positions, read at one entry. -/
theorem spread_apply {α : Type} (v : S512.Idx → α) (e : Fin 8) (t : Fin 512) : spread v (ix2 e t) = v (ix1 t) := by
  unfold spread
  rw [broadcastTo_1b_ab_apply, shapeCast_a_1a_apply]

/-- The greatest entry of a column, as the maximum of the token's eight values. -/
theorem colMax_apply (v : FVec Ideal S8x512 .f32) (t : Fin 512) : colMax v (ix1 t) = rowMax fun k => v (ix2 k t) := by
  unfold colMax rowMax
  refine (Ideal.multiReduction_maximumf_single v _ reduces_S8x512_S512 (.inl rfl) rfl (ix1 t)).trans ?_
  congr 1
  funext k; exact congrArg v (lift_col t k)

/-- The sum of a column, as the sum of the token's eight values. -/
theorem colSum_apply (v : FVec Ideal S8x512 .f32) (t : Fin 512) : colSum v (ix1 t) = ∑ k : Fin 8, v (ix2 k t) := by
  unfold colSum
  refine (Ideal.multiReduction_add_single v _ reduces_S8x512_S512 (.inl rfl) rfl (ix1 t)).trans ?_
  exact Finset.sum_congr rfl fun k _ => congrArg v (lift_col t k)

/-- The least number of a column, as a minimum over the eight experts. -/
theorem colMin_apply (v : IVec S8x512 32) (t : Fin 512) :
    colMin v (ix1 t) = (Finset.univ : Finset (Fin 8)).fold IntOp.minsi 2147483647#32 fun k => v (ix2 k t) := by
  classical
  unfold colMin
  refine (multiReductionI_eq_fold .minsi v _ reduces_S8x512_S512 rfl (ix1 t)).trans ?_
  refine (reduces_S8x512_S512.fold_filter_drop_single IntOp.minsi _ v (ix1 t)).trans ?_
  congr 1
  funext k; exact congrArg v (lift_col t k)

/-- An entry's row number is its expert. -/
theorem rowNumber_apply (e : Fin 8) (t : Fin 512) : rowNumber (ix2 e t) = BitVec.ofNat 32 e.val := by
  show BitVec.ofNat 32 (0 * 8 + e.val) = _
  rw [Nat.zero_mul, Nat.zero_add]

/-! ## The products -/

/-- A tile's product with the stacked factors, entry by entry. -/
theorem stacked_apply (x : FVec Ideal S512x2048 .f32) (lg : FVec Ideal S136x2048 .bf16) (q : Fin 136) (t : Fin 512) :
    k0_pay8 (F := Ideal) x lg (ix2 q t) = ∑ k : Fin 2048, lg (ix2 q k) * x (ix2 t k) := by
  unfold k0_pay8 k0_pay6
  rw [shapeCast_self]
  refine (Ideal.matmul_transposedRhs_apply (M := 136) (K := 2048) (N := 512) none lg x _ q t).trans ?_
  rw [show constant (F := Ideal) S136x512 .f32 0x00000000#32 (ix2 q t) = 0 from Ideal.ofBits_zero_f32, zero_add]

/-- The first 128 rows: each expert's hidden rows, not yet weighted. -/
theorem lefts_apply (x : FVec Ideal S512x2048 .f32) (lg : FVec Ideal S136x2048 .bf16) (q : Fin 128) (t : Fin 512) :
    k0_pay9 (F := Ideal) x lg (ix2 q t) = ∑ k : Fin 2048, lg (ix2 (⟨q.val, by omega⟩ : Fin 136) k) * x (ix2 t k) := by
  unfold k0_pay9
  rw [← stacked_apply]
  exact slice2_axis0_apply 0 _ _ q t _ (Nat.zero_add _).symm

/-! ## The gate -/

/-- The softmax of each column. -/
def colScore (l : FVec Ideal S8x512 .f32) : FVec Ideal S8x512 .f32 :=
  divf (exp (F := Ideal) (subf l (spread (colMax l)))) (spread (colSum (exp (F := Ideal) (subf l (spread (colMax l))))))

/-- The least position of each column's greatest entry. -/
def colFirst (s : FVec Ideal S8x512 .f32) : IVec S512 32 :=
  colMin (select (cmpf (F := Ideal) .oeq s (spread (colMax s))) rowNumber (broadcast S8x512 8#32))

/-- Each column with the entry at its given position put to −∞. -/
def colMasked (s : FVec Ideal S8x512 .f32) (w : IVec S512 32) : FVec Ideal S8x512 .f32 :=
  select (cmpi .eq rowNumber (spread w)) (broadcast S8x512 (Scalar.ofBits (F := Ideal) .f32 0xFF800000#32)) s

/-- Where the row number is one of the column's two positions. -/
def colMask (s : FVec Ideal S8x512 .f32) : IVec S8x512 1 :=
  ori (cmpi .eq rowNumber (spread (colFirst s))) (cmpi .eq rowNumber (spread (colFirst (colMasked s (colFirst s)))))

/-- The tile's scores are each token's softmax scores. -/
theorem colScore_apply (l : FVec Ideal S8x512 .f32) (e : Fin 8) (t : Fin 512) :
    colScore l (ix2 e t) = score (fun k => l (ix2 k t)) e := by
  have hexp : ∀ k : Fin 8, exp (F := Ideal) (subf l (spread (colMax l))) (ix2 k t)
      = Ideal.exp (l (ix2 k t) - rowMax fun k => l (ix2 k t)) := by
    intro k
    rw [← colMax_apply, ← spread_apply (colMax l) k t]
    rfl
  unfold colScore score
  rw [divf_apply, spread_apply, colSum_apply, hexp, Finset.sum_congr rfl fun k _ => hexp k]

/-- The first number where a column is greatest, as that of the token's eight values. -/
theorem colFirst_apply (s : FVec Ideal S8x512 .f32) (t : Fin 512) : colFirst s (ix1 t) = firstIdx fun k => s (ix2 k t) := by
  unfold colFirst firstIdx
  rw [colMin_apply]
  congr 1
  funext k
  rw [select_apply, cmpf_apply, spread_apply, colMax_apply, rowNumber_apply, broadcast_apply]
  rfl

/-- A column with one expert masked, entry by entry. -/
theorem colMasked_apply (s : FVec Ideal S8x512 .f32) (w : IVec S512 32) (e : Fin 8) (t : Fin 512) :
    colMasked s w (ix2 e t) = maskedAt (fun k => s (ix2 k t)) (w (ix1 t)) e := by
  unfold colMasked maskedAt
  rw [select_apply, broadcast_apply, show Scalar.ofBits (F := Ideal) .f32 0xFF800000#32 = ⊥ from ofBits_neg_inf]
  show Scalar.select (IntOp.cmpi .eq (rowNumber (ix2 e t)) (spread w (ix2 e t))) _ _ = _
  rw [rowNumber_apply, spread_apply]

/-- The mask, applied: the experts' weights. -/
theorem colMask_apply (s : FVec Ideal S8x512 .f32) (e : Fin 8) (t : Fin 512) :
    Scalar.select (colMask s (ix2 e t)) (s (ix2 e t)) 0 = gateWeight (fun k => s (ix2 k t)) e := by
  unfold gateWeight maskWeight
  show Scalar.select (IntOp.ori (IntOp.cmpi .eq (rowNumber (ix2 e t)) (spread _ (ix2 e t)))
    (IntOp.cmpi .eq (rowNumber (ix2 e t)) (spread _ (ix2 e t)))) _ _ = _
  rw [rowNumber_apply, spread_apply, spread_apply, colFirst_apply, colFirst_apply]
  have hm : (fun k => colMasked s (colFirst s) (ix2 k t))
      = maskedAt (fun k => s (ix2 k t)) (firstIdx fun k => s (ix2 k t)) := by
    funext k
    rw [colMasked_apply, colFirst_apply]
  rw [hm]

/-- The last eight rows of the product: the logits of a token of the tile. -/
def blockLogits (x : FVec Ideal S512x2048 .f32) (lg : FVec Ideal S136x2048 .bf16) (t : Fin 512) (e : Fin 8) : EReal :=
  ∑ k : Fin 2048, lg (ix2 (⟨128 + e.val, by omega⟩ : Fin 136) k) * x (ix2 t k)

/-- The kernel's scores are the column scores of the logits' rows of the product. -/
theorem scores_eq (x : FVec Ideal S512x2048 .f32) (lg : FVec Ideal S136x2048 .bf16) :
    k0_pay10 (F := Ideal) x lg = colScore (extractStridedSlice S8x512 ![128, 0] (k0_pay8 (F := Ideal) x lg) slices_S136x512_o128_0_S8x512) := by
  unfold k0_pay10 colScore colMax colSum spread
  generalize k0_pay8 (F := Ideal) x lg = s
  rfl

/-- One of the kernel's scores, from the token and the gate. -/
theorem scores_apply (x : FVec Ideal S512x2048 .f32) (lg : FVec Ideal S136x2048 .bf16) (e : Fin 8) (t : Fin 512) :
    k0_pay10 (F := Ideal) x lg (ix2 e t) = score (blockLogits x lg t) e := by
  rw [scores_eq, colScore_apply]
  congr 1
  funext k
  exact (slice2_axis0_apply 128 _ _ k t ⟨128 + k.val, by omega⟩ rfl).trans (stacked_apply x lg _ t)

/-- The kernel's mask marks the first greatest expert and the first greatest among the others. -/
theorem mask_eq (x : FVec Ideal S512x2048 .f32) (lg : FVec Ideal S136x2048 .bf16) :
    k0_pay11 (F := Ideal) x lg = colMask (k0_pay10 (F := Ideal) x lg) := by
  unfold k0_pay11 colMask colFirst colMasked colMin colMax spread rowNumber
  generalize k0_pay10 (F := Ideal) x lg = s
  rfl

/-- The kernel's scores where its mask is set, zero elsewhere, are the token's weights by the mask. -/
theorem mask_apply (x : FVec Ideal S512x2048 .f32) (lg : FVec Ideal S136x2048 .bf16) (e : Fin 8) (t : Fin 512) :
    Scalar.select (k0_pay11 (F := Ideal) x lg (ix2 e t)) (k0_pay10 (F := Ideal) x lg (ix2 e t)) 0
      = gateWeight (score (blockLogits x lg t)) e := by
  rw [mask_eq, colMask_apply]
  rw [show (fun k => k0_pay10 (F := Ideal) x lg (ix2 k t)) = score (blockLogits x lg t) from funext fun k => scores_apply x lg k t]

/-- One value per expert and token, repeated over the expert's sixteen rows. -/
theorem repeat_apply {α : Type} (v : S8x512.Idx → α) (q : Fin 128) (t : Fin 512) :
    shapeCast S128x512 (broadcastTo S8x16x512 (shapeCast S8x1x512 v shapeCasts_S8x512_S8x1x512) broadcasts_S8x1x512_S8x16x512)
      shapeCasts_S8x16x512_S128x512 (ix2 q t) = v (ix2 (expertOf q) t) := by
  rw [shapeCast_apply _ shapeCasts_S8x16x512_S128x512 (ix2 q t) (ix3 (expertOf q) (rankOf q) t) (by
    rw [Shape.rowMajor_val_three, Shape.rowMajor_val_two]
    show (q.val / 16 * 16 + q.val % 16) * 512 + t.val = q.val * 512 + t.val
    omega)]
  rw [broadcastTo_apply _ broadcasts_S8x1x512_S8x16x512 (ix3 (expertOf q) (rankOf q) t) (ix3 (expertOf q) (0 : Fin 1) t) (fun a => by
    match a with
    | ⟨0, _⟩ => rfl
    | ⟨1, _⟩ => rfl
    | ⟨2, _⟩ => rfl)]
  exact shapeCast_apply _ shapeCasts_S8x512_S8x1x512 _ _ (by
    rw [Shape.rowMajor_val_three, Shape.rowMajor_val_two]
    show (expertOf q).val * 512 + t.val = ((expertOf q).val * 1 + 0) * 512 + t.val
    omega)

/-- The weighted hidden rows that a point leaves for the next. -/
theorem hidden_apply (x : FVec Ideal S512x2048 .f32) (lg : FVec Ideal S136x2048 .bf16) (q : Fin 128) (t : Fin 512) :
    k0_pay4 (F := Ideal) (k0_pay9 (F := Ideal) x lg) (k0_pay10 (F := Ideal) x lg) (k0_pay11 (F := Ideal) x lg) (ix2 q t)
      = (∑ k : Fin 2048, lg (ix2 (⟨q.val, by omega⟩ : Fin 136) k) * x (ix2 t k))
        * (gateWeight (score (blockLogits x lg t)) (expertOf q) * 1) := by
  rw [← lefts_apply, ← mask_apply]
  unfold k0_pay4
  rw [shapeCast_self]
  refine (congrArg (fun z : EReal => _ * (z * Ideal.ofBits .f32 0x3F800000#32)) (repeat_apply _ q t)).trans ?_
  rw [select_apply, broadcast_apply, show Scalar.ofBits (F := Ideal) .f32 0x00000000#32 = 0 from Ideal.ofBits_zero_f32,
    Ideal.ofBits_one_f32]

/-- The product along the stacked rows. -/
theorem rights_apply (h : FVec Ideal S128x512 .bf16) (r : FVec Ideal S128x2048 .bf16) (t : Fin 512) (d : Fin 2048) :
    matmul (F := Ideal) dot_S128x512_S128x2048_S512x2048_0_0_1_1_n_n none h r (constant S512x2048 .f32 0x00000000#32) (ix2 t d)
      = ∑ q : Fin 128, h (ix2 q t) * r (ix2 q d) := by
  refine (Ideal.matmul_constant_zero_apply dot_S128x512_S128x2048_S512x2048_0_0_1_1_n_n none h r (ix2 t d)).trans ?_
  rw [← Equiv.sum_comp (contrEquiv1 dot_S128x512_S128x2048_S512x2048_0_0_1_1_n_n 128 rfl rfl).symm]
  refine Finset.sum_congr rfl fun q _ => ?_
  have hq := contrEquiv1_symm_val dot_S128x512_S128x2048_S512x2048_0_0_1_1_n_n 128 rfl rfl q
  congr 1
  · refine congrArg h (funext fun a => Fin.ext ?_)
    match a with
    | ⟨0, _⟩ => exact hq
    | ⟨1, _⟩ => rfl
  · refine congrArg r (funext fun a => Fin.ext ?_)
    match a with
    | ⟨0, _⟩ => exact hq
    | ⟨1, _⟩ => rfl

/-- A tile's output. -/
theorem output_apply (x : FVec Ideal S512x2048 .bf16) (w : FVec Ideal S2048x2048 .bf16) (h : FVec Ideal S128x512 .bf16)
    (r : FVec Ideal S128x2048 .bf16) (b : FVec Ideal S1x2048 .f32) (t : Fin 512) (d : Fin 2048) :
    k0_pay3 (F := Ideal) x w h r b (ix2 t d)
      = (∑ k : Fin 2048, x (ix2 t k) * w (ix2 d k) + ∑ q : Fin 128, h (ix2 q t) * r (ix2 q d)) + b (ix2 (0 : Fin 1) d) := by
  have hx : matmul (F := Ideal) dot_S512x2048_S2048x2048_S512x2048_1_1_0_0_n_n none x w (constant S512x2048 .f32 0x00000000#32) (ix2 t d)
      = ∑ k : Fin 2048, x (ix2 t k) * w (ix2 d k) := by
    refine (Ideal.matmul_transposedRhs_apply (M := 512) (K := 2048) (N := 2048) none x w _ t d).trans ?_
    rw [show constant (F := Ideal) S512x2048 .f32 0x00000000#32 (ix2 t d) = 0 from Ideal.ofBits_zero_f32, zero_add]
  unfold k0_pay3
  rw [shapeCast_self, addf_apply, addf_apply, hx, rights_apply, broadcastTo_1b_ab_apply]

end Cert.MoeBlock

end
-- ==== Proof.Pieces.lean ====
/-
  What each case of the kernel's body leaves in its buffers, as the payloads of its stores over the blocks it reads: every
  store covers its buffer, and every load reads a whole one.
-/
module

public import proofs.«01_k».proof.Proof.Block
public import proofs.«01_k».proof.Proof.Gen.KernelIdeal.Frame
public import Idealize.ShloMosaic.Lib.Pipeline.Value

@[expose] public section

set_option maxRecDepth 16384

noncomputable section

namespace Cert.MoePieces

open Cert.KernelIdeal Cert.KernelIdeal.Gen Idealize.ShloMosaic Idealize.ShloMosaic.TcCoe Idealize.SL Idealize.SL.Sem

variable {F : FTy → Type} [FloatOps F]

/-- The start of a whole-buffer access is zero on both axes. -/
theorem hz : (![0, 0] : Fin 2 → Nat) = fun _ => 0 := funext fun a => match a with | ⟨0, _⟩ => rfl | ⟨1, _⟩ => rfl

/-- The weighted hidden rows of a tile from the tile and the stacked factors. -/
abbrev hiddenRows (x : Vec F S512x2048 .f32) (lg : Vec F S136x2048 .bf16) : Vec F S128x512 .bf16 :=
  k0_pay4 (k0_pay9 x lg) (k0_pay10 x lg) (k0_pay11 x lg)

variable (c : Dev nD) (i : grid0.Coords)
  (a1 : Memref sig .tc .vmem S512x2048 .f32) (h1 : a1.IsWhole)
  (a2 : Memref sig .tc .vmem S2048x2048 .f32) (h2 : a2.IsWhole)
  (a3 : Memref sig .tc .vmem S1x2048 .f32) (h3 : a3.IsWhole)
  (a4 : Memref sig .tc .vmem S136x2048 .f32) (h4 : a4.IsWhole)
  (a5 : Memref sig .tc .vmem S128x2048 .f32) (h5 : a5.IsWhole)
  (a6 : Memref sig .tc .vmem S512x2048 .f32) (h6 : a6.IsWhole)
  (a7 : Memref sig .tc .vmem S2048x2048 .bf16) (h7 : a7.IsWhole)
  (a8 : Memref sig .tc .vmem S136x2048 .bf16) (h8 : a8.IsWhole)
  (a9 : Memref sig .tc .vmem S128x2048 .bf16) (h9 : a9.IsWhole)
  (a10 : Memref sig .tc .vmem S512x2048 .bf16) (h10 : a10.IsWhole)
  (a11 : Memref sig .tc .vmem S128x512 .bf16) (h11 : a11.IsWhole)
  (x0 : Vec F S512x2048 .f32) (x1 : Vec F S2048x2048 .f32) (x2 : Vec F S1x2048 .f32) (x3 : Vec F S136x2048 .f32)
  (x4 : Vec F S128x2048 .f32)

/-- The first point: the weights' scratch. -/
theorem sout_A_0_eq (hc0 : cond0_0 i) (hc1 : ¬cond0_1 i) (hc2 : cond0_2 i) (hc3 : cond0_3 i) :
    sout0_A_0 c i a1 h1 a2 h2 a3 h3 a4 h4 a5 h5 a6 h6 a7 h7 a8 h8 a9 h9 a10 h10 a11 h11 hc0 hc1 hc2 hc3 x0 x1 x2 x3 x4 = k0_pay5 x1 := by
  unfold sout0_A_0
  rw [View.read_writes_eq_canon _ _ _ (scover0_A_0 c i a1 h1 a2 h2 a3 h3 a4 h4 a5 h5 a6 h6 a7 h7 a8 h8 a9 h9 a10 h10 a11 h11 hc0 hc1 hc2 hc3 x0 x1 x2 x3 x4)]
  unfold kernelRun0_A
  dsimp only
  sl_unfold_words
  rw [View.canon_unit_zero (S := S2048x2048) hz]
  try simp only [View.readCov_unit_zero (S := S136x2048) _ hz]
  simp only [View.readAt_eq_ld, h1.read_unread, h2.read_unread, h3.read_unread, h4.read_unread, h5.read_unread, h6.read_unread, h7.read_unread, h8.read_unread, h9.read_unread, h10.read_unread, h11.read_unread,
    View.ld_unit_zero (S := S512x2048) hz, View.ld_unit_zero (S := S2048x2048) hz, View.ld_unit_zero (S := S1x2048) hz,
    View.ld_unit_zero (S := S136x2048) hz, View.ld_unit_zero (S := S128x2048) hz, View.ld_unit_zero (S := S128x512) hz]

/-- The first point: the stacked first factors' scratch. -/
theorem sout_A_1_eq (hc0 : cond0_0 i) (hc1 : ¬cond0_1 i) (hc2 : cond0_2 i) (hc3 : cond0_3 i) :
    sout0_A_1 c i a1 h1 a2 h2 a3 h3 a4 h4 a5 h5 a6 h6 a7 h7 a8 h8 a9 h9 a10 h10 a11 h11 hc0 hc1 hc2 hc3 x0 x1 x2 x3 x4 = k0_pay1 x3 := by
  unfold sout0_A_1
  rw [View.read_writes_eq_canon _ _ _ (scover0_A_1 c i a1 h1 a2 h2 a3 h3 a4 h4 a5 h5 a6 h6 a7 h7 a8 h8 a9 h9 a10 h10 a11 h11 hc0 hc1 hc2 hc3 x0 x1 x2 x3 x4)]
  unfold kernelRun0_A
  dsimp only
  sl_unfold_words
  rw [View.canon_unit_zero (S := S136x2048) hz]
  try simp only [View.readCov_unit_zero (S := S136x2048) _ hz]
  simp only [View.readAt_eq_ld, h1.read_unread, h2.read_unread, h3.read_unread, h4.read_unread, h5.read_unread, h6.read_unread, h7.read_unread, h8.read_unread, h9.read_unread, h10.read_unread, h11.read_unread,
    View.ld_unit_zero (S := S512x2048) hz, View.ld_unit_zero (S := S2048x2048) hz, View.ld_unit_zero (S := S1x2048) hz,
    View.ld_unit_zero (S := S136x2048) hz, View.ld_unit_zero (S := S128x2048) hz, View.ld_unit_zero (S := S128x512) hz]

/-- The first point: the stacked second factors' scratch. -/
theorem sout_A_2_eq (hc0 : cond0_0 i) (hc1 : ¬cond0_1 i) (hc2 : cond0_2 i) (hc3 : cond0_3 i) :
    sout0_A_2 c i a1 h1 a2 h2 a3 h3 a4 h4 a5 h5 a6 h6 a7 h7 a8 h8 a9 h9 a10 h10 a11 h11 hc0 hc1 hc2 hc3 x0 x1 x2 x3 x4 = k0_pay2 x4 := by
  unfold sout0_A_2
  rw [View.read_writes_eq_canon _ _ _ (scover0_A_2 c i a1 h1 a2 h2 a3 h3 a4 h4 a5 h5 a6 h6 a7 h7 a8 h8 a9 h9 a10 h10 a11 h11 hc0 hc1 hc2 hc3 x0 x1 x2 x3 x4)]
  unfold kernelRun0_A
  dsimp only
  sl_unfold_words
  rw [View.canon_unit_zero (S := S128x2048) hz]
  try simp only [View.readCov_unit_zero (S := S136x2048) _ hz]
  simp only [View.readAt_eq_ld, h1.read_unread, h2.read_unread, h3.read_unread, h4.read_unread, h5.read_unread, h6.read_unread, h7.read_unread, h8.read_unread, h9.read_unread, h10.read_unread, h11.read_unread,
    View.ld_unit_zero (S := S512x2048) hz, View.ld_unit_zero (S := S2048x2048) hz, View.ld_unit_zero (S := S1x2048) hz,
    View.ld_unit_zero (S := S136x2048) hz, View.ld_unit_zero (S := S128x2048) hz, View.ld_unit_zero (S := S128x512) hz]

/-- The first point: the tile kept for the next point. -/
theorem sout_A_3_eq (hc0 : cond0_0 i) (hc1 : ¬cond0_1 i) (hc2 : cond0_2 i) (hc3 : cond0_3 i) :
    sout0_A_3 c i a1 h1 a2 h2 a3 h3 a4 h4 a5 h5 a6 h6 a7 h7 a8 h8 a9 h9 a10 h10 a11 h11 hc0 hc1 hc2 hc3 x0 x1 x2 x3 x4 = k0_pay7 x0 := by
  unfold sout0_A_3
  rw [View.read_writes_eq_canon _ _ _ (scover0_A_3 c i a1 h1 a2 h2 a3 h3 a4 h4 a5 h5 a6 h6 a7 h7 a8 h8 a9 h9 a10 h10 a11 h11 hc0 hc1 hc2 hc3 x0 x1 x2 x3 x4)]
  unfold kernelRun0_A
  dsimp only
  sl_unfold_words
  rw [View.canon_unit_zero (S := S512x2048) hz]
  try simp only [View.readCov_unit_zero (S := S136x2048) _ hz]
  simp only [View.readAt_eq_ld, h1.read_unread, h2.read_unread, h3.read_unread, h4.read_unread, h5.read_unread, h6.read_unread, h7.read_unread, h8.read_unread, h9.read_unread, h10.read_unread, h11.read_unread,
    View.ld_unit_zero (S := S512x2048) hz, View.ld_unit_zero (S := S2048x2048) hz, View.ld_unit_zero (S := S1x2048) hz,
    View.ld_unit_zero (S := S136x2048) hz, View.ld_unit_zero (S := S128x2048) hz, View.ld_unit_zero (S := S128x512) hz]

/-- The first point: the hidden rows kept for the next point. -/
theorem sout_A_4_eq (hc0 : cond0_0 i) (hc1 : ¬cond0_1 i) (hc2 : cond0_2 i) (hc3 : cond0_3 i) :
    sout0_A_4 c i a1 h1 a2 h2 a3 h3 a4 h4 a5 h5 a6 h6 a7 h7 a8 h8 a9 h9 a10 h10 a11 h11 hc0 hc1 hc2 hc3 x0 x1 x2 x3 x4 = hiddenRows x0 (k0_pay1 x3) := by
  unfold sout0_A_4
  rw [View.read_writes_eq_canon _ _ _ (scover0_A_4 c i a1 h1 a2 h2 a3 h3 a4 h4 a5 h5 a6 h6 a7 h7 a8 h8 a9 h9 a10 h10 a11 h11 hc0 hc1 hc2 hc3 x0 x1 x2 x3 x4)]
  unfold kernelRun0_A
  dsimp only
  sl_unfold_words
  rw [View.canon_unit_zero (S := S128x512) hz]
  try simp only [View.readCov_unit_zero (S := S136x2048) _ hz]
  simp only [View.readAt_eq_ld, h1.read_unread, h2.read_unread, h3.read_unread, h4.read_unread, h5.read_unread, h6.read_unread, h7.read_unread, h8.read_unread, h9.read_unread, h10.read_unread, h11.read_unread,
    View.ld_unit_zero (S := S512x2048) hz, View.ld_unit_zero (S := S2048x2048) hz, View.ld_unit_zero (S := S1x2048) hz,
    View.ld_unit_zero (S := S136x2048) hz, View.ld_unit_zero (S := S128x2048) hz, View.ld_unit_zero (S := S128x512) hz]

variable (xs0 : Vec F S2048x2048 .bf16) (xs1 : Vec F S136x2048 .bf16) (xs2 : Vec F S128x2048 .bf16) (xs3 : Vec F S512x2048 .bf16)
  (xs4 : Vec F S128x512 .bf16)

/-- A middle point: the output of the tile kept by the point before. -/
theorem out_B_5_eq (hc0 : ¬cond0_0 i) (hc1 : cond0_1 i) (hc2 : cond0_2 i) (hc3 : ¬cond0_3 i) :
    out0_B_5 c i a1 h1 a2 h2 a3 h3 a4 h4 a5 h5 a6 h6 a7 h7 a8 h8 a9 h9 a10 h10 a11 h11 hc0 hc1 hc2 hc3 x0 x1 x2 x3 x4 xs0 xs1 xs2 xs3 xs4 = k0_pay3 xs3 xs0 xs4 xs2 x2 := by
  unfold out0_B_5
  rw [View.read_writes_eq_canon _ _ _ (cover0_B_5 c i a1 h1 a2 h2 a3 h3 a4 h4 a5 h5 a6 h6 a7 h7 a8 h8 a9 h9 a10 h10 a11 h11 hc0 hc1 hc2 hc3 x0 x1 x2 x3 x4 xs0 xs1 xs2 xs3 xs4)]
  unfold kernelRun0_B
  dsimp only
  sl_unfold_words
  rw [View.canon_unit_zero (S := S512x2048) hz]
  simp only [View.readAt_eq_ld, h1.read_unread, h2.read_unread, h3.read_unread, h4.read_unread, h5.read_unread, h6.read_unread, h7.read_unread, h8.read_unread, h9.read_unread, h10.read_unread, h11.read_unread,
    View.ld_unit_zero (S := S512x2048) hz, View.ld_unit_zero (S := S2048x2048) hz, View.ld_unit_zero (S := S1x2048) hz,
    View.ld_unit_zero (S := S136x2048) hz, View.ld_unit_zero (S := S128x2048) hz, View.ld_unit_zero (S := S128x512) hz]

/-- A middle point: the tile kept for the next point. -/
theorem sout_B_3_eq (hc0 : ¬cond0_0 i) (hc1 : cond0_1 i) (hc2 : cond0_2 i) (hc3 : ¬cond0_3 i) :
    sout0_B_3 c i a1 h1 a2 h2 a3 h3 a4 h4 a5 h5 a6 h6 a7 h7 a8 h8 a9 h9 a10 h10 a11 h11 hc0 hc1 hc2 hc3 x0 x1 x2 x3 x4 xs0 xs1 xs2 xs3 xs4 = k0_pay7 x0 := by
  unfold sout0_B_3
  rw [View.read_writes_eq_canon _ _ _ (scover0_B_3 c i a1 h1 a2 h2 a3 h3 a4 h4 a5 h5 a6 h6 a7 h7 a8 h8 a9 h9 a10 h10 a11 h11 hc0 hc1 hc2 hc3 x0 x1 x2 x3 x4 xs0 xs1 xs2 xs3 xs4)]
  unfold kernelRun0_B
  dsimp only
  sl_unfold_words
  rw [View.canon_unit_zero (S := S512x2048) hz]
  simp only [View.readAt_eq_ld, h1.read_unread, h2.read_unread, h3.read_unread, h4.read_unread, h5.read_unread, h6.read_unread, h7.read_unread, h8.read_unread, h9.read_unread, h10.read_unread, h11.read_unread,
    View.ld_unit_zero (S := S512x2048) hz, View.ld_unit_zero (S := S2048x2048) hz, View.ld_unit_zero (S := S1x2048) hz,
    View.ld_unit_zero (S := S136x2048) hz, View.ld_unit_zero (S := S128x2048) hz, View.ld_unit_zero (S := S128x512) hz]

/-- A middle point: the hidden rows kept for the next point. -/
theorem sout_B_4_eq (hc0 : ¬cond0_0 i) (hc1 : cond0_1 i) (hc2 : cond0_2 i) (hc3 : ¬cond0_3 i) :
    sout0_B_4 c i a1 h1 a2 h2 a3 h3 a4 h4 a5 h5 a6 h6 a7 h7 a8 h8 a9 h9 a10 h10 a11 h11 hc0 hc1 hc2 hc3 x0 x1 x2 x3 x4 xs0 xs1 xs2 xs3 xs4 = hiddenRows x0 xs1 := by
  unfold sout0_B_4
  rw [View.read_writes_eq_canon _ _ _ (scover0_B_4 c i a1 h1 a2 h2 a3 h3 a4 h4 a5 h5 a6 h6 a7 h7 a8 h8 a9 h9 a10 h10 a11 h11 hc0 hc1 hc2 hc3 x0 x1 x2 x3 x4 xs0 xs1 xs2 xs3 xs4)]
  unfold kernelRun0_B
  dsimp only
  sl_unfold_words
  rw [View.canon_unit_zero (S := S128x512) hz]
  simp only [View.readAt_eq_ld, h1.read_unread, h2.read_unread, h3.read_unread, h4.read_unread, h5.read_unread, h6.read_unread, h7.read_unread, h8.read_unread, h9.read_unread, h10.read_unread, h11.read_unread,
    View.ld_unit_zero (S := S512x2048) hz, View.ld_unit_zero (S := S2048x2048) hz, View.ld_unit_zero (S := S1x2048) hz,
    View.ld_unit_zero (S := S136x2048) hz, View.ld_unit_zero (S := S128x2048) hz, View.ld_unit_zero (S := S128x512) hz]

/-- The last point: the output of the tile kept by the point before. -/
theorem out_C_5_eq (hc0 : ¬cond0_0 i) (hc1 : cond0_1 i) (hc2 : ¬cond0_2 i) (hc3 : ¬cond0_3 i) :
    out0_C_5 c i a1 h1 a2 h2 a3 h3 a4 h4 a5 h5 a6 h6 a7 h7 a8 h8 a9 h9 a10 h10 a11 h11 hc0 hc1 hc2 hc3 x0 x1 x2 x3 x4 xs0 xs1 xs2 xs3 xs4 = k0_pay3 xs3 xs0 xs4 xs2 x2 := by
  unfold out0_C_5
  rw [View.read_writes_eq_canon _ _ _ (cover0_C_5 c i a1 h1 a2 h2 a3 h3 a4 h4 a5 h5 a6 h6 a7 h7 a8 h8 a9 h9 a10 h10 a11 h11 hc0 hc1 hc2 hc3 x0 x1 x2 x3 x4 xs0 xs1 xs2 xs3 xs4)]
  unfold kernelRun0_C
  dsimp only
  sl_unfold_words
  rw [View.canon_unit_zero (S := S512x2048) hz]
  simp only [View.readAt_eq_ld, h1.read_unread, h2.read_unread, h3.read_unread, h4.read_unread, h5.read_unread, h6.read_unread, h7.read_unread, h8.read_unread, h9.read_unread, h10.read_unread, h11.read_unread,
    View.ld_unit_zero (S := S512x2048) hz, View.ld_unit_zero (S := S2048x2048) hz, View.ld_unit_zero (S := S1x2048) hz,
    View.ld_unit_zero (S := S136x2048) hz, View.ld_unit_zero (S := S128x2048) hz, View.ld_unit_zero (S := S128x512) hz]

end Cert.MoePieces

end
-- ==== Proof.Points.lean ====
/-
  What the buffers hold after each grid point: the constants stored by the first point, the tile that the point reads and its
  hidden rows, and the output of the tile of the point before.
-/
module

public import proofs.«01_k».proof.Proof.Pieces

@[expose] public section

set_option maxRecDepth 16384

noncomputable section

namespace Cert.MoePoints

open Cert.KernelIdeal Cert.KernelIdeal.Gen Cert.MoePieces Idealize.ShloMosaic Idealize.ShloMosaic.TcCoe Idealize.SL Idealize.SL.Sem

variable {F : FTy → Type} [FloatOps F]
variable (m : (ℓ : Loc nD τ sig) → Buf (Elt F) ℓ) (c : Dev nD)

/-- The grid's first point. -/
abbrev first : Fin cfg0.N := ⟨0, by rw [show cfg0.N = 9 from N_0]; omega⟩

/-- The weights, as the first point stores them. -/
def weights : Vec F S2048x2048 .bf16 := k0_pay5 (iblk m c 1 first)

/-- The stacked first factors and the gate's weights, as the first point stores them. -/
def stacked : Vec F S136x2048 .bf16 := k0_pay1 (iblk m c 3 first)

/-- The stacked second factors, as the first point stores them. -/
def stackedRights : Vec F S128x2048 .bf16 := k0_pay2 (iblk m c 4 first)

/-- After each of the first eight points the scratch holds the constants, the point's tile and the tile's hidden rows. -/
theorem scratch (n : ℕ) (hn : n < cfg0.N) (h8 : n < 8) :
    (outsAt0 m c n hn).2 = (weights m c, stacked m c, stackedRights m c, k0_pay7 (iblk m c 0 ⟨n, hn⟩),
      hiddenRows (iblk m c 0 ⟨n, hn⟩) (stacked m c)) := by
  induction n with
  | zero =>
    have h := outsAt0_A m c ⟨0, hn⟩ (Nat.zero_mod 9) (by show ¬1 ≤ 0; omega) h8 (Nat.zero_mod 9)
    rw [sout_A_0_eq, sout_A_1_eq, sout_A_2_eq, sout_A_3_eq, sout_A_4_eq] at h
    exact congrArg Prod.snd h
  | succ n ih =>
    have hp : (outsAt0 m c (n + 1 - 1) (Nat.lt_of_succ_lt hn)).2 = _ := ih (Nat.lt_of_succ_lt hn) (by omega)
    have h := outsAt0_B m c ⟨n + 1, hn⟩ (by dsimp only; omega) (by dsimp only; omega) h8 (by dsimp only; omega)
    rw [sout_B_3_eq, sout_B_4_eq] at h
    unfold sout0_B_0 sout0_B_1 sout0_B_2 at h
    refine (congrArg Prod.snd h).trans ?_
    rw [hp]

/-- After each later point the output's buffer holds the output of the tile of the point before. -/
theorem output (n : ℕ) (hn : n + 1 < cfg0.N) :
    (outsAt0 m c (n + 1) hn).1 = k0_pay3 (k0_pay7 (iblk m c 0 ⟨n, Nat.lt_of_succ_lt hn⟩)) (weights m c)
      (hiddenRows (iblk m c 0 ⟨n, Nat.lt_of_succ_lt hn⟩) (stacked m c)) (stackedRights m c) (iblk m c 2 ⟨n + 1, hn⟩) := by
  have hN : n + 1 < 9 := lt_of_lt_of_eq hn (show cfg0.N = 9 from N_0)
  have hp : (outsAt0 m c (n + 1 - 1) (Nat.lt_of_succ_lt hn)).2 = _ := scratch m c n (Nat.lt_of_succ_lt hn) (by omega)
  by_cases h8 : n + 1 < 8
  · have h := outsAt0_B m c ⟨n + 1, hn⟩ (by dsimp only; omega) (by dsimp only; omega) h8 (by dsimp only; omega)
    rw [out_B_5_eq] at h
    refine (congrArg Prod.fst h).trans ?_
    rw [hp]
  · have h := outsAt0_C m c ⟨n + 1, hn⟩ (by dsimp only; omega) (by dsimp only; omega) h8 (by dsimp only; omega)
    rw [out_C_5_eq] at h
    refine (congrArg Prod.fst h).trans ?_
    rw [hp]

end Cert.MoePoints

end
-- ==== Proof.Output.lean ====
/-
  The array that the kernel leaves: each element is the token's formula over the arrays that the grid is given.
-/
module

public import proofs.«01_k».proof.Proof.Points
public import Idealize.ShloMosaic.Lib.Pipeline.ValueKit

@[expose] public section

set_option maxRecDepth 16384

noncomputable section

namespace Cert.MoeOutput

open Cert.KernelIdeal Cert.KernelIdeal.Gen Cert.MoePieces Cert.MoePoints Cert.MoeBlock Cert.MoeMath
open Idealize.ShloMosaic hiding ix2 ix1 ix3
open Idealize.ShloMosaic.TcCoe Idealize.ShloMosaic.ValueIdx Idealize.SL Idealize.SL.Sem

variable {F : FTy → Type} [FloatOps F]

/-! ## The blocks of the inputs -/

/-- The tile's index at a point: the point itself, the last one staying at the tile before. -/
theorem tile_index : ∀ t : Fin cfg0.N, win0_0.index t = ![min t.val 7, 0] :=
  (by decide +kernel : ∀ t : Fin grid0.N, _)

/-- The output's tile: that of the point before. -/
theorem out_index : ∀ t : Fin cfg0.N, win0_5.index t = ![t.val - 1, 0] :=
  (by decide +kernel : ∀ t : Fin grid0.N, _)

/-- The weights' block is the same at every grid point. -/
theorem weights_index : ∀ t : Fin cfg0.N, win0_1.index t = ![0, 0] := (by decide +kernel : ∀ t : Fin grid0.N, _)
/-- So is the bias' block. -/
theorem bias_index : ∀ t : Fin cfg0.N, win0_2.index t = ![0, 0] := (by decide +kernel : ∀ t : Fin grid0.N, _)
/-- So is the stacked factors' block. -/
theorem stacked_index : ∀ t : Fin cfg0.N, win0_3.index t = ![0, 0] := (by decide +kernel : ∀ t : Fin grid0.N, _)
/-- So is the second factors' block. -/
theorem rights_index : ∀ t : Fin cfg0.N, win0_4.index t = ![0, 0] := (by decide +kernel : ∀ t : Fin grid0.N, _)

/-- The output is written back at every point but the first. -/
theorem flush_pos : ∀ t : Fin cfg0.N, (cfg0.win 5).flush t = true → 1 ≤ t.val :=
  (by decide +kernel : ∀ t : Fin grid0.N, _)

variable (m : (ℓ : Loc nD τ sig) → Buf (Elt F) ℓ) (c : Dev nD)

/-- The tile at a point, element by element. -/
theorem tile_apply (t : Fin cfg0.N) (a : Fin 512) (k : Fin 2048) (h : min t.val 7 * 512 + a.val < 4096) :
    iblk m c 0 t (ix2 a k) = V m c main_v0 (ix2 ⟨min t.val 7 * 512 + a.val, h⟩ k) :=
  congrArg (V m c main_v0) (by blk_ext [tile_index] <;> rfl)

/-- The other inputs are given whole at every point. -/
theorem weights_block (t : Fin cfg0.N) : iblk m c 1 t = V m c main_arg1 :=
  funext fun _ => congrArg (V m c main_arg1) (by blk_ext [weights_index])

/-- The bias' block is its whole array. -/
theorem bias_block (t : Fin cfg0.N) : iblk m c 2 t = V m c main_v5 :=
  funext fun _ => congrArg (V m c main_v5) (by blk_ext [bias_index])

/-- The stacked factors' block is its whole array. -/
theorem stacked_block (t : Fin cfg0.N) : iblk m c 3 t = V m c main_v3 :=
  funext fun _ => congrArg (V m c main_v3) (by blk_ext [stacked_index])

/-- The second factors' block is its whole array. -/
theorem rights_block (t : Fin cfg0.N) : iblk m c 4 t = V m c main_v4 :=
  funext fun _ => congrArg (V m c main_v4) (by blk_ext [rights_index])

/-! ## The output -/

/-- One element of the output from the arrays that the grid is given: the token times the weights' row, plus the weighted
    hidden entries times the second factors' column, plus the bias. -/
def outputAt (X : FVec Ideal S4096x2048 .f32) (W : FVec Ideal S2048x2048 .f32) (B : FVec Ideal S1x2048 .f32)
    (LG : FVec Ideal S136x2048 .f32) (RF : FVec Ideal S128x2048 .f32) (T : Fin 4096) (d : Fin 2048) : EReal :=
  (∑ k : Fin 2048, X (ix2 T k) * W (ix2 d k)
    + ∑ q : Fin 128, (∑ k : Fin 2048, LG (ix2 (⟨q.val, by omega⟩ : Fin 136) k) * X (ix2 T k))
        * (gateWeight (score fun e => ∑ k : Fin 2048, LG (ix2 (⟨128 + e.val, by omega⟩ : Fin 136) k) * X (ix2 T k)) (expertOf q) * 1)
        * RF (ix2 q d)) + B (ix2 (0 : Fin 1) d)

section Casts

/-- At the ideal values the cast of the weights is the weights. -/
theorem pay5_eq (x : FVec Ideal S2048x2048 .f32) : k0_pay5 (F := Ideal) x = x :=
  shapeCast_self (truncf (F := Ideal) .bf16 x bitsLt_bf16_f32) _

/-- So is the cast of the stacked factors. -/
theorem pay1_eq (x : FVec Ideal S136x2048 .f32) : k0_pay1 (F := Ideal) x = x :=
  (shapeCast_self (truncf (F := Ideal) .bf16 (shapeCast S136x2048 x shapeCasts_S136x2048_S136x2048) bitsLt_bf16_f32) _).trans (shapeCast_self x _)

/-- So is the cast of the second factors. -/
theorem pay2_eq (x : FVec Ideal S128x2048 .f32) : k0_pay2 (F := Ideal) x = x :=
  (shapeCast_self (truncf (F := Ideal) .bf16 (shapeCast S128x2048 x shapeCasts_S128x2048_S128x2048) bitsLt_bf16_f32) _).trans (shapeCast_self x _)

/-- So is the cast of the tile. -/
theorem pay7_eq (x : FVec Ideal S512x2048 .f32) : k0_pay7 (F := Ideal) x = x := by
  unfold k0_pay7 k0_pay6; rw [shapeCast_self, shapeCast_self]; rfl

end Casts

/-- What a tile's output is, from the tile and the arrays kept whole. -/
theorem tile_output (X : FVec Ideal S4096x2048 .f32) (x : FVec Ideal S512x2048 .f32) (W : FVec Ideal S2048x2048 .f32)
    (B : FVec Ideal S1x2048 .f32) (LG : FVec Ideal S136x2048 .f32) (RF : FVec Ideal S128x2048 .f32) (T : Fin 4096) (a : Fin 512)
    (d : Fin 2048) (hx : ∀ k, x (ix2 a k) = X (ix2 T k)) :
    k0_pay3 (F := Ideal) (k0_pay7 (F := Ideal) x) (k0_pay5 (F := Ideal) W) (hiddenRows (F := Ideal) x (k0_pay1 (F := Ideal) LG))
      (k0_pay2 (F := Ideal) RF) B (ix2 a d) = outputAt X W B LG RF T d := by
  rw [pay7_eq, pay5_eq, pay1_eq, pay2_eq]
  refine (output_apply x W (hiddenRows (F := Ideal) x LG) RF B a d).trans ?_
  unfold outputAt hiddenRows
  simp only [hidden_apply, hx]
  unfold blockLogits
  simp only [hx]

/-- The array that the grid leaves. -/
theorem array_eq (m : (ℓ : Loc nD τ sig) → Buf (Elt Ideal) ℓ) (c : Dev nD) :
    (dats (F := Ideal) m 0 c).arrAt 5 cfg0.N
      = fun i => outputAt (V m c main_v0) (V m c main_arg1) (V m c main_v5) (V m c main_v3) (V m c main_v4) (i 0) (i 1) := by
  refine (dats (F := Ideal) m 0 c).arrAt_eq_of_covers 5 _ (by decide +kernel) fun t hf y => ?_
  have hpos := flush_pos t hf
  blk_simp
  rw [after0_5]
  obtain ⟨n, hn⟩ := t
  obtain ⟨n, rfl⟩ : ∃ k, n = k + 1 := ⟨n - 1, by simp only at hpos; omega⟩
  have h9 : n + 1 < 9 := lt_of_lt_of_eq hn (show cfg0.N = 9 from N_0)
  obtain ⟨a, d, rfl⟩ : ∃ (a : Fin 512) (d : Fin 2048), y = ix2 a d := ⟨y 0, y 1, ValueIdx.eq_ix2 y⟩
  have hT : n * 512 + a.val < 4096 := by omega
  rw [show (win0_5.blk ⟨n + 1, hn⟩).view.emb (ix2 a d) = ix2 (⟨n * 512 + a.val, hT⟩ : Fin 4096) d by
    blk_ext [out_index] <;> rfl]
  refine (congrFun (output (F := Ideal) m c n hn) _).trans ?_
  unfold weights stacked stackedRights
  rw [weights_block, bias_block, stacked_block, rights_block]
  refine tile_output _ _ _ _ _ _ _ _ _ fun k => ?_
  have h7 : min n 7 = n := by omega
  refine (tile_apply (F := Ideal) m c _ a k (by simp only [h7]; exact hT)).trans ?_
  simp only [h7]
  rfl

end Cert.MoeOutput

end
-- ==== Proof.Entry.lean ====
/-
  The arrays that the grid is given, from the arguments: the tokens flattened, the first factors stacked over the gate's weights,
  the second factors stacked, and the bias as one row.
-/
module

public import proofs.«01_k».proof.Proof.Output

@[expose] public section

set_option maxRecDepth 16384

noncomputable section

namespace Cert.MoeEntry

open Cert.KernelIdeal Cert.KernelIdeal.Gen Cert.MoeMath
open Idealize.ShloMosaic hiding ix2 ix1 ix3 eq_ix2
open Idealize.ShloMosaic.TcCoe Idealize.ShloMosaic.ValueIdx Idealize.SL Idealize.SL.Sem

variable {F : FTy → Type} [FloatOps F]
variable (m : (ℓ : Loc nD τ sig) → Buf (Elt F) ℓ) (c : Dev nD)

/-- The grid's first array is the tokens flattened. -/
theorem V_tokens : V m c main_v0 = shapeCast S4096x2048 (m ((c : Thread nD τ).loc main_arg0)) shapeCasts_S1x4096x2048_S4096x2048 := by
  show StableHlo.after hostOps0 _ _ = _
  unfold hostOps0
  after_results
  rfl

/-- The stacked array: the transposed first factors over the gate's weights. -/
theorem V_stacked : V m c main_v3
    = concatenate S136x2048 0
      [⟨S128x2048, shapeCast S128x2048 (transpose S8x16x2048 [0, 2, 1] (m ((c : Thread nD τ).loc main_arg4)) transposes_S8x2048x16_S8x16x2048_0_2_1) shapeCasts_S8x16x2048_S128x2048⟩,
        ⟨S8x2048, m ((c : Thread nD τ).loc main_arg3)⟩]
      concatenates_S128x2048_S8x2048_S136x2048_d0 := by
  show StableHlo.after hostOps0 _ _ = _
  unfold hostOps0
  after_results
  rfl

/-- The second factors' array: the experts stacked. -/
theorem V_rights : V m c main_v4 = shapeCast S128x2048 (m ((c : Thread nD τ).loc main_arg5)) shapeCasts_S8x16x2048_S128x2048 := by
  show StableHlo.after hostOps0 _ _ = _
  unfold hostOps0
  after_results
  rfl

/-- The bias' array: the bias as one row. -/
theorem V_bias : V m c main_v5 = shapeCast S1x2048 (m ((c : Thread nD τ).loc main_arg2)) shapeCasts_S2048_S1x2048 := by
  show StableHlo.after hostOps0 _ _ = _
  unfold hostOps0
  after_results
  rfl

/-! ## Element by element -/

/-- An entry of the flattened tokens is one of the argument's. -/
theorem tokens_apply (T : Fin 4096) (k : Fin 2048) :
    V m c main_v0 (ix2 T k) = m ((c : Thread nD τ).loc main_arg0) (ix3 (0 : Fin 1) T k) := by
  rw [V_tokens]
  exact shapeCast_1ab_ab_apply (a := 4096) (b := 2048) _ _ T k

/-- The second factors stacked: row `q` is a rank of an expert. -/
theorem rights_apply (q : Fin 128) (d : Fin 2048) :
    V m c main_v4 (ix2 q d) = m ((c : Thread nD τ).loc main_arg5) (ix3 (expertOf q) (rankOf q) d) := by
  rw [V_rights]
  exact shapeCast_apply (s := S8x16x2048) (t := S128x2048) _ _ _ _ (by
    rw [Shape.rowMajor_val_three, Shape.rowMajor_val_two]
    show (q.val / 16 * 16 + q.val % 16) * 2048 + d.val = q.val * 2048 + d.val
    omega)

/-- An entry of the bias row is one of the bias. -/
theorem bias_apply (d : Fin 2048) : V m c main_v5 (ix2 (0 : Fin 1) d) = m ((c : Thread nD τ).loc main_arg2) (ix1 d) := by
  rw [V_bias]
  exact shapeCast_a_1a_apply (a := 2048) _ _ 0 d

/-- The first 128 rows of the stacked array are the first factors, transposed. -/
theorem stacked_lefts_apply (q : Fin 128) (k : Fin 2048) :
    V m c main_v3 (ix2 (⟨q.val, by omega⟩ : Fin 136) k)
      = m ((c : Thread nD τ).loc main_arg4) (ix3 (expertOf q) k (rankOf q)) := by
  rw [V_stacked]
  refine (concatenate_pair_apply_left (t := S136x2048) (s₁ := S128x2048) (s₂ := S8x2048) _ _ _ _ _ rfl (ix2 q k) fun b => ?_).trans ?_
  · match b with
    | ⟨0, _⟩ => rfl
    | ⟨1, _⟩ => rfl
  · refine (shapeCast_apply _ _ _ (ix3 (expertOf q) (rankOf q) k) (by
      rw [Shape.rowMajor_val_three, Shape.rowMajor_val_two]
      show (q.val / 16 * 16 + q.val % 16) * 2048 + k.val = q.val * 2048 + k.val
      omega)).trans ?_
    exact transpose_ix3_021_apply (m := 8) (a := 2048) (b := 16) _ _ _ _ _

/-- The last eight rows are the gate's weights. -/
theorem stacked_gate_apply (e : Fin 8) (k : Fin 2048) :
    V m c main_v3 (ix2 (⟨128 + e.val, by omega⟩ : Fin 136) k) = m ((c : Thread nD τ).loc main_arg3) (ix2 e k) := by
  rw [V_stacked]
  refine concatenate_pair_apply_right (t := S136x2048) (s₁ := S128x2048) (s₂ := S8x2048) _ _ _ _ _ rfl rfl (ix2 e k) (fun b hb => ?_) ?_
  · match b with
    | ⟨0, _⟩ => exact absurd rfl hb
    | ⟨1, _⟩ => rfl
  · exact Nat.add_comm _ _

/-! ## The result -/

/-- An element of the output, when the arrays' entries are those of the arguments. -/
theorem outputAt_eq {X : FVec Ideal S4096x2048 .f32} {W : FVec Ideal S2048x2048 .f32} {B : FVec Ideal S1x2048 .f32}
    {LG : FVec Ideal S136x2048 .f32} {RF : FVec Ideal S128x2048 .f32} {T : Fin 4096} {d : Fin 2048} {x : Fin 2048 → EReal}
    {g : Fin 8 → Fin 2048 → EReal} {L : Fin 8 → Fin 2048 → Fin 16 → EReal} {w : Fin 2048 → EReal} {b : EReal}
    {R : Fin 8 → Fin 16 → EReal} (hx : ∀ k, X (ix2 T k) = x k) (hg : ∀ (e : Fin 8) k, LG (ix2 (⟨128 + e.val, by omega⟩ : Fin 136) k) = g e k)
    (hL : ∀ (q : Fin 128) k, LG (ix2 (⟨q.val, by omega⟩ : Fin 136) k) = L (expertOf q) k (rankOf q)) (hw : ∀ k, W (ix2 d k) = w k)
    (hb : B (ix2 (0 : Fin 1) d) = b) (hR : ∀ q, RF (ix2 q d) = R (expertOf q) (rankOf q)) :
    MoeOutput.outputAt X W B LG RF T d = kernelToken x g L w b R := by
  unfold MoeOutput.outputAt kernelToken MoeMath.hidden logits
  simp only [hx, hg, hL, hw, hb, hR]

/-- The kernel's run: every element of the result is the token's sum, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) = (fun i =>
        kernelToken (fun k => m ((c : Thread nD τ).loc main_arg0) (ix3 (0 : Fin 1) (i 1) k))
          (fun e k => m ((c : Thread nD τ).loc main_arg3) (ix2 e k)) (fun e k r => m ((c : Thread nD τ).loc main_arg4) (ix3 e k r))
          (fun k => m ((c : Thread nD τ).loc main_arg1) (ix2 (i 2) k)) (m ((c : Thread nD τ).loc main_arg2) (ix1 (i 2)))
          (fun e r => m ((c : Thread nD τ).loc main_arg5) (ix3 e r (i 2)))) := by
  refine (θ_run defs _ _).mono (fun r h c => ?_) (run_main (F := Ideal) m ρ)
  refine ((h c).2 main_v7 (Pipeline.mem_restRefs_of main_v7 (by decide) (by decide))).trans ?_
  unfold Pipeline.afterTail₀
  show StableHlo.after hostOps1 _ _ = _
  unfold hostOps1
  after_results
  have hA := (Pipeline.withArrays_arr (cfgs 0).spec winFacts0.arr_inj c (V0 m c)
    (fun w => (dats (F := Ideal) m 0 c).arrAt w (cfgs 0).N) (5 : Fin 6)).trans (MoeOutput.array_eq m c)
  funext i
  refine (congrFun (congrArg (fun A => shapeCast S1x4096x2048 A shapeCasts_S4096x2048_S1x4096x2048) hA) i).trans ?_
  obtain ⟨u, T, d, rfl⟩ : ∃ (u : Fin 1) (T : Fin 4096) (d : Fin 2048), i = ix3 u T d := ⟨i 0, i 1, i 2, ValueIdx.eq_ix3 i⟩
  refine (shapeCast_ab_1ab_apply (a := 4096) (b := 2048) _ _ u T d).trans ?_
  exact outputAt_eq (tokens_apply m c T) (stacked_gate_apply m c) (stacked_lefts_apply m c)
    (fun k => congrFun (V_main_arg1 m c) (ix2 d k)) (bias_apply m c d) (fun q => rights_apply m c q d)

end Cert.MoeEntry

end
-- ==== Proof.RefGate.lean ====
/-
  The reference's gate, entry by entry: the logits, their softmax, the two greatest scores by a stable sort, and the weights that
  these give to the experts.
-/
module

public import proofs.«01_k».proof.Proof.Entry
public import proofs.«01_k».proof.Proof.Gen.ReferenceIdeal.Run
public import Idealize.ShloMosaic.Lib.StackMember

@[expose] public section

set_option maxRecDepth 16384

noncomputable section

namespace Cert.MoeRefGate

open Cert.ReferenceIdeal Cert.ReferenceIdeal.Gen Cert.MoeMath
open Idealize.ShloMosaic hiding ix1 ix2 ix3 eq_ix2 eq_ix3
open Idealize.ShloMosaic.ValueIdx

/-! ## The logits -/

/-- The gate's logits of every token. -/
def refLogits (x : FVec Ideal S4096x2048 .f32) (g : FVec Ideal S8x2048 .f32) : FVec Ideal S4096x8 .f32 :=
  Host.dotGeneral (F := Ideal) dot_S4096x2048_S2048x8_S4096x8_1_0_0_1_n_n none x
    (transpose S2048x8 [1, 0] g transposes_S8x2048_S2048x8_1_0)

/-- One logit is the token's product with one row of the gate. -/
theorem refLogits_apply (x : FVec Ideal S4096x2048 .f32) (g : FVec Ideal S8x2048 .f32) (T : Fin 4096) (e : Fin 8) :
    refLogits x g (ix2 T e) = ∑ k : Fin 2048, x (ix2 T k) * g (ix2 e k) := by
  refine (StackMember.dotGeneral_plain_apply (m := 4096) (k := 2048) (n := 8) none x _ T e).trans ?_
  exact Finset.sum_congr rfl fun k _ => congrArg (x (ix2 T k) * ·) (transpose_ix2_apply (a := 8) (b := 2048) g _ k e)

/-! ## The softmax -/

/-- Reducing the experts' axis leaves the tokens. -/
theorem reduces_row : S4096x8.Reduces [1] S4096 := by decide

/-- One value per token, spread over the token's eight entries. -/
def spreadRow {α : Type} (v : S4096.Idx → α) : S4096x8.Idx → α :=
  broadcastInDim S4096x8 ![0, 1] bcast_S4096x1_S4096x8_0_1 (broadcastInDim S4096x1 ![0] bcast_S4096_S4096x1_0 v)

/-- A value per token, spread over the experts, read at one entry. -/
theorem spreadRow_apply {α : Type} (v : S4096.Idx → α) (T : Fin 4096) (e : Fin 8) : spreadRow v (ix2 T e) = v (ix1 T) := by
  unfold spreadRow
  refine (broadcastInDim_apply _ _ _ (ix2 T e) (ix2 T (0 : Fin 1)) fun a => ?_).trans ?_
  · match a with
    | ⟨0, _⟩ => rfl
    | ⟨1, _⟩ => rfl
  · exact broadcastInDim_apply _ _ _ _ (ix1 T) fun a => match a with | ⟨0, _⟩ => rfl

/-- An entry of a token's row, as a reduction along the row names it. -/
theorem lift_row (T : Fin 4096) (k : Fin 8) : reduces_row.lift (ix1 T) k = ix2 T k := by
  funext a; apply Fin.ext
  match a with
  | ⟨0, _⟩ => rfl
  | ⟨1, _⟩ => rfl

/-- The greatest logit of every token. -/
def refMax (l : FVec Ideal S4096x8 .f32) : FVec Ideal S4096 .f32 :=
  maximumf (F := Ideal) (broadcastInDim S4096 ![] bcast_S_S4096 (constant (F := Ideal) S_ .f32 0xFF800000#32))
    (Host.reduce (FloatOps.maximumf (F := Ideal)) l (constant (F := Ideal) S_ .f32 0xFF800000#32) reducesTo_S4096x8_S4096_d1 h_S_)

/-- The reference's row maximum is the maximum of the token's eight logits. -/
theorem refMax_apply (l : FVec Ideal S4096x8 .f32) (T : Fin 4096) : refMax l (ix1 T) = rowMax fun e => l (ix2 T e) := by
  have h : Host.reduce (FloatOps.maximumf (F := Ideal) (φ := .f32)) l (constant (F := Ideal) S_ .f32 0xFF800000#32) reducesTo_S4096x8_S4096_d1 h_S_ (ix1 T)
      = rowMax fun e => l (ix2 T e) := by
    refine (Host.reduce_eq_fold_single (FloatOps.maximumf (F := Ideal) (φ := .f32)) l _ reducesTo_S4096x8_S4096_d1 reduces_row h_S_ (ix1 T)).trans ?_
    unfold rowMax
    rw [show (constant (F := Ideal) S_ .f32 0xFF800000#32) (Shape.Idx.first h_S_) = (⊥ : EReal) from MoeBlock.ofBits_neg_inf]
    exact congrArg (fun f => Finset.fold max (⊥ : EReal) f (Finset.univ : Finset (Fin 8))) (funext fun k => congrArg l (lift_row T k))
  show max ((broadcastInDim S4096 ![] bcast_S_S4096 (constant (F := Ideal) S_ .f32 0xFF800000#32)) (ix1 T) : EReal) _ = _
  rw [h, show (broadcastInDim S4096 ![] bcast_S_S4096 (constant (F := Ideal) S_ .f32 0xFF800000#32)) (ix1 T) = (⊥ : EReal) from
    (broadcastInDim_scalar_apply _ _ _).trans MoeBlock.ofBits_neg_inf]
  exact bot_sup_eq _

/-- The exponentials of a token's logits, each less the greatest. -/
def refExp (l : FVec Ideal S4096x8 .f32) : FVec Ideal S4096x8 .f32 := Host.exp (F := Ideal) (subf (F := Ideal) l (spreadRow (refMax l)))

/-- One exponential of the reference's softmax. -/
theorem refExp_apply (l : FVec Ideal S4096x8 .f32) (T : Fin 4096) (e : Fin 8) :
    refExp l (ix2 T e) = Ideal.exp (l (ix2 T e) - rowMax fun e => l (ix2 T e)) := by
  show Ideal.exp (l (ix2 T e) - spreadRow (refMax l) (ix2 T e)) = _
  rw [spreadRow_apply, refMax_apply]

/-- The softmax of every token's logits. -/
def refScores (l : FVec Ideal S4096x8 .f32) : FVec Ideal S4096x8 .f32 :=
  Host.divf (F := Ideal) (refExp l) (spreadRow (Host.reduceAdd (F := Ideal) (refExp l) (constant (F := Ideal) S_ .f32 0x00000000#32) reducesTo_S4096x8_S4096_d1 h_S_))

/-- The reference's scores are each token's softmax scores. -/
theorem refScores_apply (l : FVec Ideal S4096x8 .f32) (T : Fin 4096) (e : Fin 8) :
    refScores l (ix2 T e) = score (fun e => l (ix2 T e)) e := by
  have hs : Host.reduceAdd (F := Ideal) (refExp l) (constant (F := Ideal) S_ .f32 0x00000000#32) reducesTo_S4096x8_S4096_d1 h_S_ (ix1 T)
      = ∑ k : Fin 8, Ideal.exp (l (ix2 T k) - rowMax fun e => l (ix2 T e)) := by
    rw [hostReduceAdd_apply, Ideal.hostReduceAdd_single _ reduces_row]
    rw [show (constant (F := Ideal) S_ .f32 0x00000000#32) (Shape.Idx.first h_S_) = (0 : EReal) from Ideal.ofBits_zero_f32, zero_add]
    exact Finset.sum_congr rfl fun k _ => (congrArg (refExp l) (lift_row T k)).trans (refExp_apply l T k)
  unfold refScores score
  rw [hostDivf_apply, spreadRow_apply, hs, refExp_apply]

/-! ## The two greatest -/

/-- A row's position in the order of a stable sort along the row. -/
theorem along_row (T : Fin 4096) (k k' : Fin 8) : (ix2 T k : S4096x8.Idx).along (1 : Fin 2) k' = ix2 T k' := by
  funext a
  match a with
  | ⟨0, _⟩ => rfl
  | ⟨1, _⟩ => rfl

/-- The two greatest scores of every token, with their positions. -/
def refTop (s : FVec Ideal S4096x8 .f32) : FVec Ideal S4096x2 .f32 × IVec S4096x2 32 :=
  Host.topK S4096x2 1 (FloatOps.cmpfTotal (F := Ideal) .gt) s sliceFits_S4096x8_S4096x2

/-- The order by the comparison of scores is the order by `greater`. -/
theorem before_eq (s : FVec Ideal S4096x8 .f32) (T : Fin 4096) :
    (fun k k' : Fin 8 => FloatOps.cmpfTotal (F := Ideal) (φ := .f32) .gt (s (ix2 T k)) (s (ix2 T k')) == 1#1)
      = greater fun e => s (ix2 T e) := by
  funext k k'
  unfold greater
  show (Ideal.cmp .ogt (s (ix2 T k)) (s (ix2 T k')) == 1#1) = _
  by_cases h : s (ix2 T k') < s (ix2 T k) <;> simp [Ideal.cmp, h]

/-- The order in which the sort along a row compares, read along the row. -/
theorem sorted_row (s : FVec Ideal S4096x8 .f32) (T : Fin 4096) (k : Fin 8) :
    sortedFrom (fun i i' : Fin 8 => FloatOps.cmpfTotal (F := Ideal) (φ := .f32) .gt (s ((ix2 T k : S4096x8.Idx).along (1 : Fin 2) i))
        (s ((ix2 T k : S4096x8.Idx).along (1 : Fin 2) i')) == 1#1) k
      = sortedFrom (greater fun e => s (ix2 T e)) k := by
  rw [← before_eq]
  exact congrArg (fun f => sortedFrom f k) (funext fun i => funext fun i' => by rw [along_row, along_row])

/-- The values that top-k finds, in sorted order. -/
theorem refTop_val (s : FVec Ideal S4096x8 .f32) (T : Fin 4096) (k : Fin 2) :
    (refTop s).1 (ix2 T k) = s (ix2 T (sortedPos (fun e => s (ix2 T e)) k)) := by
  unfold refTop Host.topK Host.sort2
  simp only [dif_pos (show 1 < S4096x8.rank by decide)]
  refine (extractStridedSlice_apply _ _ _ (ix2 T k) (ix2 T (k.castLE (by decide : 2 ≤ 8))) fun a => ?_).trans ?_
  · match a with
    | ⟨0, _⟩ => exact (Nat.zero_add _).symm
    | ⟨1, _⟩ => exact (Nat.zero_add _).symm
  · exact (congrArg s (along_row T _ _)).trans (congrArg (fun p => s (ix2 T p)) (sorted_row s T _))

/-- The experts that top-k finds, in sorted order. -/
theorem refTop_pos (s : FVec Ideal S4096x8 .f32) (T : Fin 4096) (k : Fin 2) :
    (refTop s).2 (ix2 T k) = BitVec.ofNat 32 (sortedPos (fun e => s (ix2 T e)) k).val := by
  unfold refTop Host.topK Host.sort2
  simp only [dif_pos (show 1 < S4096x8.rank by decide)]
  refine (extractStridedSlice_apply _ _ _ (ix2 T k) (ix2 T (k.castLE (by decide : 2 ≤ 8))) fun a => ?_).trans ?_
  · match a with
    | ⟨0, _⟩ => exact (Nat.zero_add _).symm
    | ⟨1, _⟩ => exact (Nat.zero_add _).symm
  · exact (congrArg (fun i => iotaInDim S4096x8 32 (1 : Fin 2) i) (along_row T _ _)).trans
      (congrArg (fun p : Fin 8 => BitVec.ofNat 32 p.val) (sorted_row s T _))

/-! ## The experts' weights -/

/-- Reducing the axis of the two choices leaves tokens by experts. -/
theorem reduces_top : S4096x2x8.Reduces [1] S4096x8 := by decide

/-- One value per token and rank, spread over the experts. -/
def spreadTop {α : Type} (v : S4096x2.Idx → α) : S4096x2x8.Idx → α :=
  broadcastInDim S4096x2x8 ![0, 1, 2] bcast_S4096x2x1_S4096x2x8_0_1_2 (broadcastInDim S4096x2x1 ![0, 1] bcast_S4096x2_S4096x2x1_0_1 v)

/-- A value per token and choice, spread over the experts, read at one entry. -/
theorem spreadTop_apply {α : Type} (v : S4096x2.Idx → α) (T : Fin 4096) (k : Fin 2) (e : Fin 8) :
    spreadTop v (ix3 T k e) = v (ix2 T k) := by
  unfold spreadTop
  refine (broadcastInDim_apply _ _ _ (ix3 T k e) (ix3 T k (0 : Fin 1)) fun a => ?_).trans ?_
  · match a with
    | ⟨0, _⟩ => rfl
    | ⟨1, _⟩ => rfl
    | ⟨2, _⟩ => rfl
  · exact broadcastInDim_apply _ _ _ _ (ix2 T k) fun a => match a with | ⟨0, _⟩ => rfl | ⟨1, _⟩ => rfl

/-- The one-hot row of every position, times the score there. -/
def refHot (s : FVec Ideal S4096x8 .f32) : FVec Ideal S4096x2x8 .f32 :=
  mulf (F := Ideal) (uitofp (F := Ideal) .f32 (cmpi .eq (spreadTop (refTop s).2)
    (broadcastInDim S4096x2x8 ![0, 1, 2] bcast_S1x1x8_S4096x2x8_0_1_2 (iotaInDim S1x1x8 32 2)))) (spreadTop (refTop s).1)

/-- A choice's one-hot row times the chosen score: the score at the chosen expert, else zero. -/
theorem refHot_apply (s : FVec Ideal S4096x8 .f32) (T : Fin 4096) (k : Fin 2) (e : Fin 8) :
    refHot s (ix3 T k e) = ((IntOp.cmpi .eq (BitVec.ofNat 32 (sortedPos (fun e => s (ix2 T e)) k).val) (BitVec.ofNat 32 e.val)).toNat : ℝ)
      * s (ix2 T (sortedPos (fun e => s (ix2 T e)) k)) := by
  have hi : broadcastInDim S4096x2x8 ![0, 1, 2] bcast_S1x1x8_S4096x2x8_0_1_2 (iotaInDim S1x1x8 32 2) (ix3 T k e) = BitVec.ofNat 32 e.val := by
    refine (broadcastInDim_apply _ _ _ (ix3 T k e) (ix3 (0 : Fin 1) (0 : Fin 1) e) fun a => ?_).trans rfl
    match a with
    | ⟨0, _⟩ => rfl
    | ⟨1, _⟩ => rfl
    | ⟨2, _⟩ => rfl
  show ((IntOp.cmpi .eq (spreadTop (refTop s).2 (ix3 T k e)) (broadcastInDim S4096x2x8 ![0, 1, 2] bcast_S1x1x8_S4096x2x8_0_1_2 (iotaInDim S1x1x8 32 2) (ix3 T k e))).toNat : ℝ)
    * spreadTop (refTop s).1 (ix3 T k e) = _
  rw [hi, spreadTop_apply, spreadTop_apply, refTop_pos, refTop_val]

/-- The weight of every expert for every token. -/
def refWeights (s : FVec Ideal S4096x8 .f32) : FVec Ideal S4096x8 .f32 :=
  Host.reduceAdd (F := Ideal) (refHot s) (constant (F := Ideal) S_ .f32 0x00000000#32) reducesTo_S4096x2x8_S4096x8_d1 h_S_

/-- The reference's weights: the two choices' rows added up. -/
theorem refWeights_apply (s : FVec Ideal S4096x8 .f32) (T : Fin 4096) (e : Fin 8) :
    refWeights s (ix2 T e) = sortedWeight (fun e => s (ix2 T e)) e := by
  unfold refWeights sortedWeight
  rw [hostReduceAdd_apply, Ideal.hostReduceAdd_single _ reduces_top]
  rw [show (constant (F := Ideal) S_ .f32 0x00000000#32) (Shape.Idx.first h_S_) = (0 : EReal) from Ideal.ofBits_zero_f32]
  refine congrArg (0 + ·) (Finset.sum_congr rfl fun k _ => ?_)
  refine (congrArg (refHot s) (?_ : _ = ix3 T k e)).trans (refHot_apply s T k e)
  funext a; apply Fin.ext
  match a with
  | ⟨0, _⟩ => rfl
  | ⟨1, _⟩ => rfl
  | ⟨2, _⟩ => rfl

end Cert.MoeRefGate

end
-- ==== Proof.RefToken.lean ====
/-
  The reference's result, entry by entry: the base product with its bias, and the experts' outputs weighted and added up.
-/
module

public import proofs.«01_k».proof.Proof.RefGate

@[expose] public section

set_option maxRecDepth 16384

noncomputable section

namespace Cert.MoeRefToken

open Cert.ReferenceIdeal Cert.ReferenceIdeal.Gen Cert.MoeMath Cert.MoeRefGate
open Idealize.ShloMosaic hiding ix1 ix2 ix3 eq_ix2 eq_ix3
open Idealize.ShloMosaic.TcCoe Idealize.ShloMosaic.ValueIdx Idealize.SL Idealize.SL.Sem

/-! ## The base product -/

/-- The weights' product with the tokens, plus the bias. -/
def refBase (x : FVec Ideal S4096x2048 .f32) (w : FVec Ideal S2048x2048 .f32) (b : FVec Ideal S2048 .f32) : FVec Ideal S4096x2048 .f32 :=
  addf (F := Ideal) (Host.dotGeneral (F := Ideal) dot_S4096x2048_S2048x2048_S4096x2048_1_0_0_1_n_n none x
      (transpose S2048x2048 [1, 0] w transposes_S2048x2048_S2048x2048_1_0))
    (broadcastInDim S4096x2048 ![0, 1] bcast_S1x2048_S4096x2048_0_1 (broadcastInDim S1x2048 ![1] bcast_S2048_S1x2048_1 b))

/-- One entry of the base: the token's product with one row of the weights, plus the bias. -/
theorem refBase_apply (x : FVec Ideal S4096x2048 .f32) (w : FVec Ideal S2048x2048 .f32) (b : FVec Ideal S2048 .f32) (T : Fin 4096)
    (d : Fin 2048) : refBase x w b (ix2 T d) = ∑ k : Fin 2048, x (ix2 T k) * w (ix2 d k) + b (ix1 d) := by
  have hb : broadcastInDim S4096x2048 ![0, 1] bcast_S1x2048_S4096x2048_0_1 (broadcastInDim S1x2048 ![1] bcast_S2048_S1x2048_1 b) (ix2 T d)
      = b (ix1 d) := by
    refine (broadcastInDim_apply _ _ _ (ix2 T d) (ix2 (0 : Fin 1) d) fun a => ?_).trans ?_
    · match a with
      | ⟨0, _⟩ => rfl
      | ⟨1, _⟩ => rfl
    · exact broadcastInDim_apply _ _ _ _ (ix1 d) fun a => match a with | ⟨0, _⟩ => rfl
  unfold refBase
  rw [addf_apply, hb]
  refine congrArg (· + b (ix1 d)) ((StackMember.dotGeneral_plain_apply (m := 4096) (k := 2048) (n := 2048) none x _ T d).trans ?_)
  exact Finset.sum_congr rfl fun k _ => congrArg (x (ix2 T k) * ·) (transpose_ix2_apply (a := 2048) (b := 2048) w _ k d)

/-! ## The experts -/

/-- The first factors' products with the tokens: for every expert and rank, a token's hidden entry. -/
theorem refHidden_apply (x : FVec Ideal S4096x2048 .f32) (l : FVec Ideal S8x2048x16 .f32) (e : Fin 8) (r : Fin 16) (T : Fin 4096) :
    Host.dotGeneral (F := Ideal) dot_S8x2048x16_S4096x2048_S8x16x4096_1_1_02_0_n_n none l x (ix3 e r T)
      = ∑ k : Fin 2048, l (ix3 e k r) * x (ix2 T k) := by
  refine (Ideal.dotGeneral_apply dot_S8x2048x16_S4096x2048_S8x16x4096_1_1_02_0_n_n none _ l x (ix3 e r T)).trans ?_
  rw [← Equiv.sum_comp (contrEquiv1 dot_S8x2048x16_S4096x2048_S8x16x4096_1_1_02_0_n_n 2048 rfl rfl).symm]
  refine Finset.sum_congr rfl fun k _ => ?_
  have hk := contrEquiv1_symm_val dot_S8x2048x16_S4096x2048_S8x16x4096_1_1_02_0_n_n 2048 rfl rfl k
  congr 1
  · refine congrArg l (funext fun a => Fin.ext ?_)
    match a with
    | ⟨0, _⟩ => rfl
    | ⟨1, _⟩ => exact hk
    | ⟨2, _⟩ => rfl
  · refine congrArg x (funext fun a => Fin.ext ?_)
    match a with
    | ⟨0, _⟩ => rfl
    | ⟨1, _⟩ => exact hk

/-- Every expert's output for every token, scaled. -/
def refExperts (x : FVec Ideal S4096x2048 .f32) (l : FVec Ideal S8x2048x16 .f32) (r : FVec Ideal S8x16x2048 .f32) : FVec Ideal S8x4096x2048 .f32 :=
  mulf (F := Ideal) (Host.dotGeneral (F := Ideal) dot_S8x4096x16_S8x16x2048_S8x4096x2048_2_1_1_2_0_0 none
      (transpose S8x4096x16 [0, 2, 1] (Host.dotGeneral (F := Ideal) dot_S8x2048x16_S4096x2048_S8x16x4096_1_1_02_0_n_n none l x)
        transposes_S8x16x4096_S8x4096x16_0_2_1) r)
    (broadcastInDim S8x4096x2048 ![] bcast_S_S8x4096x2048 (constant (F := Ideal) S_ .f32 0x3F800000#32))

/-- One entry of an expert's output for a token. -/
theorem refExperts_apply (x : FVec Ideal S4096x2048 .f32) (l : FVec Ideal S8x2048x16 .f32) (r : FVec Ideal S8x16x2048 .f32) (e : Fin 8)
    (T : Fin 4096) (d : Fin 2048) :
    refExperts x l r (ix3 e T d) = (∑ q : Fin 16, (∑ k : Fin 2048, l (ix3 e k q) * x (ix2 T k)) * r (ix3 e q d)) * 1 := by
  unfold refExperts
  rw [mulf_apply, show (broadcastInDim S8x4096x2048 ![] bcast_S_S8x4096x2048 (constant (F := Ideal) S_ .f32 0x3F800000#32)) (ix3 e T d) = (1 : EReal) from
    (broadcastInDim_scalar_apply _ _ _).trans Ideal.ofBits_one_f32]
  refine congrArg (· * (1 : EReal)) ((StackMember.dotGeneral_stack_apply (G := 8) (m := 4096) (k := 16) (n := 2048) _ none _ r e T d).trans ?_)
  refine Finset.sum_congr rfl fun q _ => congrArg (· * r (ix3 e q d)) ?_
  exact (transpose_ix3_021_apply (m := 8) (a := 16) (b := 4096) _ _ e T q).trans (refHidden_apply x l e q T)

/-- The experts' outputs weighted and added up. -/
theorem refMix_apply (c : FVec Ideal S4096x8 .f32) (o : FVec Ideal S8x4096x2048 .f32) (T : Fin 4096) (d : Fin 2048) :
    Host.dotGeneral (F := Ideal) dot_S4096x8_S8x4096x2048_S4096x2048_1_0_n_2_0_1 none c o (ix2 T d)
      = ∑ e : Fin 8, c (ix2 T e) * o (ix3 e T d) := by
  refine (Ideal.dotGeneral_apply dot_S4096x8_S8x4096x2048_S4096x2048_1_0_n_2_0_1 none _ c o (ix2 T d)).trans ?_
  rw [← Equiv.sum_comp (contrEquiv1 dot_S4096x8_S8x4096x2048_S4096x2048_1_0_n_2_0_1 8 rfl rfl).symm]
  refine Finset.sum_congr rfl fun e _ => ?_
  have he := contrEquiv1_symm_val dot_S4096x8_S8x4096x2048_S4096x2048_1_0_n_2_0_1 8 rfl rfl e
  congr 1
  · refine congrArg c (funext fun a => Fin.ext ?_)
    match a with
    | ⟨0, _⟩ => rfl
    | ⟨1, _⟩ => exact he
  · refine congrArg o (funext fun a => Fin.ext ?_)
    match a with
    | ⟨0, _⟩ => exact he
    | ⟨1, _⟩ => rfl
    | ⟨2, _⟩ => rfl

/-! ## The result -/

/-- The reference's array before its last reshape. -/
def refArray (x : FVec Ideal S4096x2048 .f32) (w : FVec Ideal S2048x2048 .f32) (b : FVec Ideal S2048 .f32) (g : FVec Ideal S8x2048 .f32)
    (l : FVec Ideal S8x2048x16 .f32) (r : FVec Ideal S8x16x2048 .f32) : FVec Ideal S4096x2048 .f32 :=
  addf (F := Ideal) (refBase x w b) (Host.dotGeneral (F := Ideal) dot_S4096x8_S8x4096x2048_S4096x2048_1_0_n_2_0_1 none
    (refWeights (refScores (refLogits x g))) (refExperts x l r))

/-- One entry of the reference's array is the function of the token that the mathematics names. -/
theorem refArray_apply (x : FVec Ideal S4096x2048 .f32) (w : FVec Ideal S2048x2048 .f32) (b : FVec Ideal S2048 .f32)
    (g : FVec Ideal S8x2048 .f32) (l : FVec Ideal S8x2048x16 .f32) (r : FVec Ideal S8x16x2048 .f32) (T : Fin 4096) (d : Fin 2048) :
    refArray x w b g l r (ix2 T d)
      = referenceToken (fun k => x (ix2 T k)) (fun e k => g (ix2 e k)) (fun e k q => l (ix3 e k q)) (fun k => w (ix2 d k)) (b (ix1 d))
          (fun e q => r (ix3 e q d)) := by
  unfold refArray referenceToken
  rw [addf_apply, refBase_apply, refMix_apply]
  refine congrArg _ (Finset.sum_congr rfl fun e _ => ?_)
  rw [refWeights_apply, refExperts_apply]
  simp only [refScores_apply, refLogits_apply]

variable (m : (ℓ : Loc nD τ sig) → Buf (Elt Ideal) ℓ) (c : Dev nD)

/-- The reference's result is that array reshaped, the tokens flattened. -/
theorem result_eq : Value.res_main_v31 (F := Ideal) m c
    = shapeCast S1x4096x2048 (refArray (shapeCast S4096x2048 (m ((c.tc : Thread nD τ).loc main_arg0)) shapeCasts_S1x4096x2048_S4096x2048)
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))) shapeCasts_S4096x2048_S1x4096x2048 := rfl

/-- One element of the reference's result, from the six arguments. -/
theorem result_apply (u : Fin 1) (T : Fin 4096) (d : Fin 2048) :
    Value.res_main_v31 (F := Ideal) m c (ix3 u T d)
      = referenceToken (fun k => m ((c.tc : Thread nD τ).loc main_arg0) (ix3 (0 : Fin 1) T k))
          (fun e k => m ((c.tc : Thread nD τ).loc main_arg3) (ix2 e k)) (fun e k r => m ((c.tc : Thread nD τ).loc main_arg4) (ix3 e k r))
          (fun k => m ((c.tc : Thread nD τ).loc main_arg1) (ix2 d k)) (m ((c.tc : Thread nD τ).loc main_arg2) (ix1 d))
          (fun e r => m ((c.tc : Thread nD τ).loc main_arg5) (ix3 e r d)) := by
  rw [result_eq]
  refine (shapeCast_ab_1ab_apply (a := 4096) (b := 2048) _ _ u T d).trans ((refArray_apply _ _ _ _ _ _ T d).trans ?_)
  exact congrArg (fun x => referenceToken x _ _ _ _ _) (funext fun k => shapeCast_1ab_ab_apply (a := 4096) (b := 2048) _ _ T k)

end Cert.MoeRefToken

end
-- ==== Proof.Finite.lean ====
/-
  What the precondition says: the tokens' and the gate's entries are real numbers.
-/
module

public import proofs.«01_k».proof.Proof.RefToken
public import proofs.«01_k».proof.Pre_finite_gate_inputs

@[expose] public section

noncomputable section

namespace Cert.MoeFinite

open Idealize.ShloMosaic

/-- The word of +∞ reads +∞. -/
theorem ofBits_pos_inf : Ideal.ofBits .f32 0x7F800000#32 = ⊤ := by simp [Ideal.ofBits, Ideal.ieee]

/-- A value whose magnitude is below +∞ is a real number. -/
theorem real_of_abs_lt (a : EReal) (h : max a (-a) < ⊤) : ∃ r : ℝ, a = r := by
  induction a with
  | bot => simp at h
  | coe r => exact ⟨r, rfl⟩
  | top => simp at h

/-- The comparison of one magnitude with +∞ comes out one only at a real number. -/
theorem real_of_cmp (a : EReal) (h : Ideal.cmp .olt (max a (-a)) (Ideal.ofBits .f32 0x7F800000#32) = 1#1) : ∃ r : ℝ, a = r := by
  rw [ofBits_pos_inf] at h
  refine real_of_abs_lt a ?_
  by_contra hn
  simp [Ideal.cmp, hn] at h

variable [Cert.Pre_finite_gate_inputs.Facts]

open Cert.Pre_finite_gate_inputs

/-- The precondition's first array is all ones only if every token's entries are real. -/
theorem tokens_real (x : FVec Ideal S1x4096x2048 .f32) (w : FVec Ideal S2048x2048 .f32) (b : FVec Ideal S2048 .f32)
    (g : FVec Ideal S8x2048 .f32) (l : FVec Ideal S8x2048x16 .f32) (r : FVec Ideal S8x16x2048 .f32)
    (h : (fn (F := Ideal) x w b g l r).1 = fun _ => 1#1) (i : S1x4096x2048.Idx) : ∃ q : ℝ, x i = q :=
  real_of_cmp (x i) (congrFun h i)

/-- Its second array is all ones only if the gate's entries are real. -/
theorem gate_real (x : FVec Ideal S1x4096x2048 .f32) (w : FVec Ideal S2048x2048 .f32) (b : FVec Ideal S2048 .f32)
    (g : FVec Ideal S8x2048 .f32) (l : FVec Ideal S8x2048x16 .f32) (r : FVec Ideal S8x16x2048 .f32)
    (h : (fn (F := Ideal) x w b g l r).2 = fun _ => 1#1) (i : S8x2048.Idx) : ∃ q : ℝ, g i = q :=
  real_of_cmp (g i) (congrFun h i)

end Cert.MoeFinite

end
-- ==== Proof.lean ====
/-
  The fused LoRA mixture-of-experts linear layer. What is claimed, and where each part is proved:

    quiescent_Kernel, quiescent_KernelIdeal — the two frames, whole in the generated modules.
    quiescent_ReferenceIdeal — from the run of the reference; the program has no semaphore.
    preserves_Kernel_KernelIdeal — the idealization rewrites nothing.
    algebraic_KernelIdeal_ReferenceIdeal_pre_finite_gate_inputs — `algebraic` below. The kernel's result is found in Entry.lean (from
      Block, Pieces, Points and Output), the reference's in RefToken.lean (from RefGate), each as a function of one token; Token.lean
      (from Top2 and Scores) shows that the two functions agree where the token and the gate are finite.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The shapes of the precondition's broadcasts. -/
theorem preFacts : Cert.Pre_finite_gate_inputs.Facts := ⟨by decide, by decide⟩

/-- The kernel runs, leaves its arguments unchanged and every semaphore at zero. -/
theorem frame_kernel : Cert.quiescent_Kernel := fun m ρ _ => Cert.Kernel.Gen.frame m ρ

/-- The same of its idealization. -/
theorem frame_kernelIdeal : Cert.quiescent_KernelIdeal := fun m ρ _ => Cert.KernelIdeal.Gen.frame m ρ

/-- The same of the reference, a program without semaphores. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- With finite tokens and a finite gate, the kernel and the reference end with the same result, for every token and every output
    column, and both leave their arguments unchanged. -/
theorem algebraic : Cert.algebraic_KernelIdeal_ReferenceIdeal_pre_finite_gate_inputs (hPre_finite_gate_inputs := preFacts) := by
  intro m g m' g' hpre hargs
  refine ⟨_, (θ_run Cert.KernelIdeal.defs _ _).mono (fun r h c => ⟨h.1 c, h.2 c⟩)
      (θ_run_and (Cert.MoeEntry.run m g) (Cert.KernelIdeal.Gen.unchanged m g)),
    (θ_run Cert.ReferenceIdeal.defs _ _).mono (fun r h c => ⟨(h c).1.trans ?_, (h c).2⟩) (Cert.ReferenceIdeal.Value.run m' g')⟩
  obtain ⟨h0, h1, h2, h3, h4, h5⟩ := hargs c
  funext i
  obtain ⟨u, T, d, rfl⟩ : ∃ (u : Fin 1) (T : Fin 4096) (d : Fin 2048), i = ValueIdx.ix3 u T d := ⟨i 0, i 1, i 2, ValueIdx.eq_ix3 i⟩
  refine (Cert.MoeRefToken.result_apply m' c u T d).trans ?_
  rw [h0, h1, h2, h3, h4, h5]
  letI := preFacts
  exact (Cert.MoeMath.token_eq (fun k => Cert.MoeFinite.tokens_real _ _ _ _ _ _ (hpre c).1 (ValueIdx.ix3 0 T k))
    (fun e k => Cert.MoeFinite.gate_real _ _ _ _ _ _ (hpre c).2 (ValueIdx.ix2 e k)) _ _ _ _).symm

/-- Everything claimed. -/
theorem claim : Cert.Claim :=
  ⟨Cert.Kernel.Gen.facts, Cert.KernelIdeal.Gen.facts, Cert.ReferenceIdeal.Gen.facts, preFacts,
    frame_kernel, frame_kernelIdeal, fun m ρ _ => frame_kernelIdeal m ρ trivial,
    frame_referenceIdeal, fun m ρ _ => frame_referenceIdeal m ρ trivial, trivial, algebraic⟩

end Cert.Proof

end
